-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![8192, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S4x2048x128 : Shape := ⟨3, ![4, 2048, 128]⟩
abbrev S12x2048x128 : Shape := ⟨3, ![12, 2048, 128]⟩
abbrev S12 : Shape := ⟨1, ![12]⟩
abbrev S_ : Shape := ⟨0, ![]⟩
abbrev S2048x256 : Shape := ⟨2, ![2048, 256]⟩
abbrev S2048x1 : Shape := ⟨2, ![2048, 1]⟩
abbrev S2047x256 : Shape := ⟨2, ![2047, 256]⟩
abbrev S1x256 : Shape := ⟨2, ![1, 256]⟩
abbrev S2046x256 : Shape := ⟨2, ![2046, 256]⟩
abbrev S2x256 : Shape := ⟨2, ![2, 256]⟩
abbrev S2044x256 : Shape := ⟨2, ![2044, 256]⟩
abbrev S4x256 : Shape := ⟨2, ![4, 256]⟩
abbrev S128x2x8x256 : Shape := ⟨4, ![128, 2, 8, 256]⟩
abbrev S128x1x8x256 : Shape := ⟨4, ![128, 1, 8, 256]⟩
abbrev S128x8x256 : Shape := ⟨3, ![128, 8, 256]⟩
abbrev S128x1x1 : Shape := ⟨3, ![128, 1, 1]⟩
abbrev S64x2x16x256 : Shape := ⟨4, ![64, 2, 16, 256]⟩
abbrev S64x1x16x256 : Shape := ⟨4, ![64, 1, 16, 256]⟩
abbrev S64x16x256 : Shape := ⟨3, ![64, 16, 256]⟩
abbrev S64x1x1 : Shape := ⟨3, ![64, 1, 1]⟩
abbrev S32x2x32x256 : Shape := ⟨4, ![32, 2, 32, 256]⟩
abbrev S32x1x32x256 : Shape := ⟨4, ![32, 1, 32, 256]⟩
abbrev S32x32x256 : Shape := ⟨3, ![32, 32, 256]⟩
abbrev S32x1x1 : Shape := ⟨3, ![32, 1, 1]⟩
abbrev S16x2x64x256 : Shape := ⟨4, ![16, 2, 64, 256]⟩
abbrev S16x1x64x256 : Shape := ⟨4, ![16, 1, 64, 256]⟩
abbrev S16x64x256 : Shape := ⟨3, ![16, 64, 256]⟩
abbrev S16x1x1 : Shape := ⟨3, ![16, 1, 1]⟩
abbrev S8x2x128x256 : Shape := ⟨4, ![8, 2, 128, 256]⟩
abbrev S8x1x128x256 : Shape := ⟨4, ![8, 1, 128, 256]⟩
abbrev S8x128x256 : Shape := ⟨3, ![8, 128, 256]⟩
abbrev S8x1x1 : Shape := ⟨3, ![8, 1, 1]⟩
abbrev S4x2x256x256 : Shape := ⟨4, ![4, 2, 256, 256]⟩
abbrev S4x1x256x256 : Shape := ⟨4, ![4, 1, 256, 256]⟩
abbrev S4x256x256 : Shape := ⟨3, ![4, 256, 256]⟩
abbrev S4x1x1 : Shape := ⟨3, ![4, 1, 1]⟩
abbrev S2x2x512x256 : Shape := ⟨4, ![2, 2, 512, 256]⟩
abbrev S2x1x512x256 : Shape := ⟨4, ![2, 1, 512, 256]⟩
abbrev S2x512x256 : Shape := ⟨3, ![2, 512, 256]⟩
abbrev S2x1x1 : Shape := ⟨3, ![2, 1, 1]⟩
abbrev S2048x128 : Shape := ⟨2, ![2048, 128]⟩
abbrev S1x2x1024x128 : Shape := ⟨4, ![1, 2, 1024, 128]⟩
abbrev S1x1x1024x128 : Shape := ⟨4, ![1, 1, 1024, 128]⟩
abbrev S1x1024x128 : Shape := ⟨3, ![1, 1024, 128]⟩
abbrev S2x2x512x128 : Shape := ⟨4, ![2, 2, 512, 128]⟩
abbrev S2x1x512x128 : Shape := ⟨4, ![2, 1, 512, 128]⟩
abbrev S2x512x128 : Shape := ⟨3, ![2, 512, 128]⟩
abbrev S4x2x256x128 : Shape := ⟨4, ![4, 2, 256, 128]⟩
abbrev S4x1x256x128 : Shape := ⟨4, ![4, 1, 256, 128]⟩
abbrev S4x256x128 : Shape := ⟨3, ![4, 256, 128]⟩
abbrev S8x2x128x128 : Shape := ⟨4, ![8, 2, 128, 128]⟩
abbrev S8x1x128x128 : Shape := ⟨4, ![8, 1, 128, 128]⟩
abbrev S8x128x128 : Shape := ⟨3, ![8, 128, 128]⟩
abbrev S16x2x64x128 : Shape := ⟨4, ![16, 2, 64, 128]⟩
abbrev S16x1x64x128 : Shape := ⟨4, ![16, 1, 64, 128]⟩
abbrev S16x64x128 : Shape := ⟨3, ![16, 64, 128]⟩
abbrev S32x2x32x128 : Shape := ⟨4, ![32, 2, 32, 128]⟩
abbrev S32x1x32x128 : Shape := ⟨4, ![32, 1, 32, 128]⟩
abbrev S32x32x128 : Shape := ⟨3, ![32, 32, 128]⟩
abbrev S64x2x16x128 : Shape := ⟨4, ![64, 2, 16, 128]⟩
abbrev S64x1x16x128 : Shape := ⟨4, ![64, 1, 16, 128]⟩
abbrev S64x16x128 : Shape := ⟨3, ![64, 16, 128]⟩
abbrev S128x2x8x128 : Shape := ⟨4, ![128, 2, 8, 128]⟩
abbrev S128x1x8x128 : Shape := ⟨4, ![128, 1, 8, 128]⟩
abbrev S128x8x128 : Shape := ⟨3, ![128, 8, 128]⟩
abbrev S2044x128 : Shape := ⟨2, ![2044, 128]⟩
abbrev S4x128 : Shape := ⟨2, ![4, 128]⟩
abbrev S2046x128 : Shape := ⟨2, ![2046, 128]⟩
abbrev S2x128 : Shape := ⟨2, ![2, 128]⟩
abbrev S2047x128 : Shape := ⟨2, ![2047, 128]⟩
abbrev S1x128 : Shape := ⟨2, ![1, 128]⟩
abbrev S1x2048x128 : Shape := ⟨3, ![1, 2048, 128]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S2048x512, .f32⟩
  | .local _ .vmem, ⟨0, _⟩ => ⟨S2048x512, .bf16⟩
  | .local _ .vmem, ⟨1, _⟩ => ⟨S2048x512, .f32⟩
  | .local _ .vmem, ⟨2, _⟩ => ⟨S4x2048x128, .bf16⟩
  | .local _ .vmem, ⟨3, _⟩ => ⟨S12x2048x128, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_698 : BitVec 32 := 1#32
  let v2966 : BitVec 32 := Scalar.muli v3 c1_i32_698
  let v2967 : BitVec 32 := Scalar.addi c0_i32_699 v2966
  v2967.toNat
def k0_dev4 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_734 : BitVec 32 := 1#32
  let v3227 : BitVec 32 := Scalar.muli v3 c1_i32_734
  let v3228 : BitVec 32 := Scalar.addi c0_i32_735 v3227
  v3228.toNat
def k0_dev5 (d0 : Dev nD) : Nat :=
  let c0_i32_1428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1427 : BitVec 32 := 1#32
  let v6178 : BitVec 32 := Scalar.muli v3 c1_i32_1427
  let v6179 : BitVec 32 := Scalar.addi c0_i32_1428 v6178
  v6179.toNat
def k0_dev6 (d0 : Dev nD) : Nat :=
  let c0_i32_1464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1463 : BitVec 32 := 1#32
  let v6439 : BitVec 32 := Scalar.muli v3 c1_i32_1463
  let v6440 : BitVec 32 := Scalar.addi c0_i32_1464 v6439
  v6440.toNat
def k0_dev7 (d0 : Dev nD) : Nat :=
  let c0_i32_1523 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_1522 : BitVec 32 := 1#32
  let v6718 : BitVec 32 := Scalar.muli v4 c1_i32_1522
  let v6719 : BitVec 32 := Scalar.addi c0_i32_1523 v6718
  v6719.toNat
def k0_dev8 (d0 : Dev nD) : Nat :=
  let c0_i32_1582 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_1581 : BitVec 32 := 1#32
  let v6997 : BitVec 32 := Scalar.muli v4 c1_i32_1581
  let v6998 : BitVec 32 := Scalar.addi c0_i32_1582 v6997
  v6998.toNat
def k0_dev9 (d0 : Dev nD) : Nat :=
  let c0_i32_1641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_1640 : BitVec 32 := 1#32
  let v7276 : BitVec 32 := Scalar.muli v4 c1_i32_1640
  let v7277 : BitVec 32 := Scalar.addi c0_i32_1641 v7276
  v7277.toNat
def k0_dev10 (d0 : Dev nD) : Nat :=
  let c0_i32_1700 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v4 : BitVec 32 := Scalar.xori v2 c2_i32
  let c1_i32_1699 : BitVec 32 := 1#32
  let v7555 : BitVec 32 := Scalar.muli v4 c1_i32_1699
  let v7556 : BitVec 32 := Scalar.addi c0_i32_1700 v7555
  v7556.toNat
def k0_dev11 (d0 : Dev nD) : Nat :=
  let c0_i32_1734 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1733 : BitVec 32 := 1#32
  let v7587 : BitVec 32 := Scalar.muli v3 c1_i32_1733
  let v7588 : BitVec 32 := Scalar.addi c0_i32_1734 v7587
  v7588.toNat
def k0_dev12 (d0 : Dev nD) : Nat :=
  let c0_i32_1768 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1767 : BitVec 32 := 1#32
  let v7619 : BitVec 32 := Scalar.muli v3 c1_i32_1767
  let v7620 : BitVec 32 := Scalar.addi c0_i32_1768 v7619
  v7620.toNat
def k0_dev13 (d0 : Dev nD) : Nat :=
  let c0_i32_1849 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1848 : BitVec 32 := 1#32
  let v7897 : BitVec 32 := Scalar.muli v3 c1_i32_1848
  let v7898 : BitVec 32 := Scalar.addi c0_i32_1849 v7897
  v7898.toNat
def k0_dev14 (d0 : Dev nD) : Nat :=
  let c0_i32_1928 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1927 : BitVec 32 := 1#32
  let v8175 : BitVec 32 := Scalar.muli v3 c1_i32_1927
  let v8176 : BitVec 32 := Scalar.addi c0_i32_1928 v8175
  v8176.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S8192x512, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Stage.lean ====
/- The kernel's arithmetic, cut into the steps of its network: one compare-exchange stage over a distance below 8 rows
   (`rollStage`), one over a distance of 8 rows or more (`pairStage`), and the three sequences of stages the kernel runs
   (`localLevels`, `mergeDir`, `mergeAsc`), each written with the operations of the kernel's text. -/
module

public import proofs.«01_k».proof.Proof.Gen.KernelIdeal

@[expose] public section

namespace Cert.Net

open Idealize.ShloMosaic

variable {F : FTy → Type} [FloatOps F]

/-! ## The shapes -/

/-- `n` rows of `C` columns. -/
abbrev rows (n C : Nat) : Shape := ⟨2, ![n, C]⟩
/-- `n` groups of `j` rows. -/
abbrev cube (n j C : Nat) : Shape := ⟨3, ![n, j, C]⟩
/-- `n` groups of `m` blocks of `j` rows. -/
abbrev quad (n m j C : Nat) : Shape := ⟨4, ![n, m, j, C]⟩

theorem slices_rows {o n m C : Nat} (h : o + m ≤ n) : (rows n C).Slices ![o, 0] (rows m C) :=
  ⟨rfl, fun a => by fin_cases a <;> simp [rows] <;> omega⟩

theorem slices_quad {o n j C : Nat} (h : o + 1 ≤ 2) : (quad n 2 j C).Slices ![0, o, 0, 0] (quad n 1 j C) :=
  ⟨rfl, fun a => by fin_cases a <;> simp [quad] <;> omega⟩

theorem cat_rows {a b n C : Nat} (h : a + b = n) : Shape.Concatenates [rows a C, rows b C] (rows n C) 0 := by
  refine ⟨by simp, ?_, ?_⟩
  · intro s hs
    simp only [List.mem_cons, List.not_mem_nil, or_false] at hs
    rcases hs with rfl | rfl <;> refine ⟨rfl, fun b hb => ?_⟩ <;> fin_cases b <;> simp_all [rows]
  · simp [rows, h]

theorem cat_quad {n j C : Nat} : Shape.Concatenates [quad n 1 j C, quad n 1 j C] (quad n 2 j C) 1 := by
  refine ⟨by simp, ?_, ?_⟩
  · intro s hs
    simp only [List.mem_cons, List.not_mem_nil, or_false] at hs
    rcases hs with rfl | rfl <;> refine ⟨rfl, fun b hb => ?_⟩ <;> fin_cases b <;> simp_all [quad]
  · simp [quad]

theorem cast_split {n nb j C : Nat} (h : nb * (2 * j) = n) : (rows n C).ShapeCasts (quad nb 2 j C) := by
  subst h; simp [Shape.ShapeCasts, Shape.numel, rows, quad, Fin.prod_univ_succ, Nat.mul_assoc]

theorem cast_join {n nb j C : Nat} (h : nb * (2 * j) = n) : (quad nb 2 j C).ShapeCasts (rows n C) := (cast_split h).symm

theorem cast_drop {n j C : Nat} : (quad n 1 j C).ShapeCasts (cube n j C) := by
  simp [Shape.ShapeCasts, Shape.numel, cube, quad, Fin.prod_univ_succ]

theorem cast_add {n j C : Nat} : (cube n j C).ShapeCasts (quad n 1 j C) := (cast_drop).symm

theorem bcast_rows {n C : Nat} : (rows n 1).Broadcasts (rows n C) :=
  ⟨le_rfl, fun a => by fin_cases a <;> simp [rows]⟩

theorem bcast_cube {n j C : Nat} : (cube n 1 1).Broadcasts (cube n j C) :=
  ⟨le_rfl, fun a => by fin_cases a <;> simp [cube]⟩

theorem iotas_rows {n : Nat} : (rows n 1).Iotas .tc 32 [0] := ⟨by simp, by simp, by simp⟩

theorem iotas_cube {n : Nat} : (cube n 1 1).Iotas .tc 32 [0] := ⟨by simp, by simp, by simp⟩

theorem bcast_self {s : Shape} : s.Broadcasts s :=
  ⟨le_rfl, fun a => Or.inr fun h => by congr 1; ext; simp⟩

/-! ## Bits of the row number -/

/-- Whether each integer is odd, as the kernel computes it. -/
def odd {s : Shape} (i : IVec s 32) : IVec s 1 :=
  have n : BitVec 32 := Scalar.select (Scalar.cmpi .eq 2#32 0#32) 1#32 2#32
  have r : IVec s 32 := remsi i (broadcast s n)
  cmpi .eq
    (select (andi (xori (cmpi .slt r (broadcast s 0#32)) (broadcastTo s (broadcast s (Scalar.cmpi .slt n 0#32)) bcast_self))
      (cmpi .ne r (broadcast s 0#32))) (addi r (broadcast s n)) r)
    (broadcast s 1#32)

/-- Bit `k` of the row number. -/
def rowBit (n : Nat) (k : BitVec 32) : IVec (rows n 1) 1 :=
  odd (shrsi (iota .tc (rows n 1) 32 [0] iotas_rows) (broadcast (rows n 1) k))

/-- Bit `k` of the group number. -/
def groupBit (n : Nat) (k : BitVec 32) : IVec (cube n 1 1) 1 :=
  odd (shrsi (iota .tc (cube n 1 1) 32 [0] iotas_cube) (broadcast (cube n 1 1) k))

/-! ## One stage -/

/-- The mask of a row bit over every column. -/
def overRows {n : Nat} (C : Nat) (m : IVec (rows n 1) 1) : IVec (rows n C) 1 :=
  broadcastTo (rows n C) (shapeCast (rows n 1) m rfl) bcast_rows

/-- The mask of a group bit over the group. -/
def overGroups {n : Nat} (j C : Nat) (m : IVec (cube n 1 1) 1) : IVec (cube n j C) 1 :=
  broadcastTo (cube n j C) (shapeCast (cube n 1 1) m rfl) bcast_cube

/-- Each row's partner `j` rows away: the row below (`j` further on) where bit `k` of the row number is clear, the row
    above where it is set. `a` is the number of rows less `j`. -/
def rollPartner {n : Nat} (a j C : Nat) (h : a + j = n) (m : IVec (rows n 1) 1) (x : FVec F (rows n C) .bf16) :
    FVec F (rows n C) .bf16 :=
  select (overRows C m)
    (concatenate (rows n C) 0
      [⟨rows j C, extractStridedSlice (rows j C) ![a, 0] x (slices_rows h.le)⟩,
       ⟨rows a C, extractStridedSlice (rows a C) ![0, 0] x (slices_rows (by omega))⟩] (cat_rows (by omega)))
    (concatenate (rows n C) 0
      [⟨rows a C, extractStridedSlice (rows a C) ![j, 0] x (slices_rows (by omega))⟩,
       ⟨rows j C, extractStridedSlice (rows j C) ![0, 0] x (slices_rows (by omega))⟩] (cat_rows h))

/-- A compare-exchange stage between rows `j` apart, by shifting the rows: a row takes the greater of itself and its
    partner where `keep` is set, the lesser elsewhere. -/
def rollStage {n : Nat} (a j C : Nat) (h : a + j = n) (m keep : IVec (rows n 1) 1) (x : FVec F (rows n C) .bf16) :
    FVec F (rows n C) .bf16 :=
  have p := rollPartner a j C h m x
  select (overRows C keep) (maximumf x p) (minimumf x p)

/-- The rows of the first (`o = 0`) or the second (`o = 1`) block of every pair of `j`-row blocks. -/
def half {n : Nat} (o nb j C : Nat) (h : nb * (2 * j) = n) (ho : o + 1 ≤ 2) (x : FVec F (rows n C) .bf16) : FVec F (cube nb j C) .bf16 :=
  shapeCast (cube nb j C) (extractStridedSlice (quad nb 1 j C) ![0, o, 0, 0] (shapeCast (quad nb 2 j C) x (cast_split h)) (slices_quad ho))
    cast_drop

/-- The rows put together again from the first and the second blocks. -/
def join {n : Nat} (nb j C : Nat) (h : nb * (2 * j) = n) (f g : FVec F (cube nb j C) .bf16) : FVec F (rows n C) .bf16 :=
  shapeCast (rows n C)
    (concatenate (quad nb 2 j C) 1
      [⟨quad nb 1 j C, shapeCast (quad nb 1 j C) f cast_add⟩, ⟨quad nb 1 j C, shapeCast (quad nb 1 j C) g cast_add⟩] cat_quad)
    (cast_join h)

/-- A compare-exchange stage between rows `j` apart, by splitting the rows into pairs of `j`-row blocks: `first` and
    `second` say what the two blocks become, given the lesser and the greater of the two. -/
def pairStage {n : Nat} (nb j C : Nat) (h : nb * (2 * j) = n)
    (first second : FVec F (cube nb j C) .bf16 → FVec F (cube nb j C) .bf16 → FVec F (cube nb j C) .bf16)
    (x : FVec F (rows n C) .bf16) : FVec F (rows n C) .bf16 :=
  have lo := minimumf (half 0 nb j C h (by omega) x) (half 1 nb j C h (by omega) x)
  have hi := maximumf (half 0 nb j C h (by omega) x) (half 1 nb j C h (by omega) x)
  join nb j C h (first lo hi) (second lo hi)

/-! ## The stages of the three sequences -/

/-- A stage below 8 rows whose direction alternates with bit `K` of the row number. -/
def rollBy (a j : Nat) (h : a + j = 2048) (k K : BitVec 32) (x : FVec F (rows 2048 256) .bf16) : FVec F (rows 2048 256) .bf16 :=
  rollStage a j 256 h (rowBit 2048 k) (xori (rowBit 2048 k) (rowBit 2048 K)) x

/-- A stage of 8 rows or more whose direction alternates with bit `K` of the group number. -/
def pairBy (nb j : Nat) (h : nb * (2 * j) = 2048) (K : BitVec 32) (x : FVec F (rows 2048 256) .bf16) : FVec F (rows 2048 256) .bf16 :=
  pairStage nb j 256 h (fun lo hi => select (overGroups j 256 (groupBit nb K)) hi lo)
    (fun lo hi => select (overGroups j 256 (groupBit nb K)) lo hi) x

/-- A stage below 8 rows, falling where `d` is set. -/
def rollDir (a j : Nat) (h : a + j = 2048) (k : BitVec 32) (d : BitVec 1) (x : FVec F (rows 2048 128) .bf16) :
    FVec F (rows 2048 128) .bf16 :=
  rollStage a j 128 h (rowBit 2048 k) (xori (rowBit 2048 k) (broadcast (rows 2048 1) d)) x

/-- A stage of 8 rows or more, falling where `d` is set. -/
def pairDir (nb j : Nat) (h : nb * (2 * j) = 2048) (d : BitVec 1) (x : FVec F (rows 2048 128) .bf16) : FVec F (rows 2048 128) .bf16 :=
  pairStage nb j 128 h (fun lo hi => Scalar.select d hi lo) (fun lo hi => Scalar.select d lo hi) x

/-- A rising stage below 8 rows. -/
def rollAsc (a j : Nat) (h : a + j = 2048) (k : BitVec 32) (x : FVec F (rows 2048 128) .bf16) : FVec F (rows 2048 128) .bf16 :=
  rollStage a j 128 h (rowBit 2048 k) (rowBit 2048 k) x

/-- A rising stage of 8 rows or more. -/
def pairAsc (nb j : Nat) (h : nb * (2 * j) = 2048) (x : FVec F (rows 2048 128) .bf16) : FVec F (rows 2048 128) .bf16 :=
  pairStage nb j 128 h (fun lo _ => lo) (fun _ hi => hi) x

/-- The stages merging blocks of 1 rows into blocks of 2, rising and falling in turn. -/
def level1 (x : FVec F (rows 2048 256) .bf16) : FVec F (rows 2048 256) .bf16 :=
  rollBy 2047 1 rfl 0#32 1#32 x

/-- The stages merging blocks of 2 rows into blocks of 4, rising and falling in turn. -/
def level2 (x : FVec F (rows 2048 256) .bf16) : FVec F (rows 2048 256) .bf16 :=
  rollBy 2047 1 rfl 0#32 2#32 <|
  rollBy 2046 2 rfl 1#32 2#32 x

/-- The stages merging blocks of 4 rows into blocks of 8, rising and falling in turn. -/
def level3 (x : FVec F (rows 2048 256) .bf16) : FVec F (rows 2048 256) .bf16 :=
  rollBy 2047 1 rfl 0#32 3#32 <|
  rollBy 2046 2 rfl 1#32 3#32 <|
  rollBy 2044 4 rfl 2#32 3#32 x

/-- The stages merging blocks of 8 rows into blocks of 16, rising and falling in turn. -/
def level4 (x : FVec F (rows 2048 256) .bf16) : FVec F (rows 2048 256) .bf16 :=
  rollBy 2047 1 rfl 0#32 4#32 <|
  rollBy 2046 2 rfl 1#32 4#32 <|
  rollBy 2044 4 rfl 2#32 4#32 <|
  pairBy 128 8 rfl 0#32 x

/-- The stages merging blocks of 16 rows into blocks of 32, rising and falling in turn. -/
def level5 (x : FVec F (rows 2048 256) .bf16) : FVec F (rows 2048 256) .bf16 :=
  rollBy 2047 1 rfl 0#32 5#32 <|
  rollBy 2046 2 rfl 1#32 5#32 <|
  rollBy 2044 4 rfl 2#32 5#32 <|
  pairBy 128 8 rfl 1#32 <|
  pairBy 64 16 rfl 0#32 x

/-- The stages merging blocks of 32 rows into blocks of 64, rising and falling in turn. -/
def level6 (x : FVec F (rows 2048 256) .bf16) : FVec F (rows 2048 256) .bf16 :=
  rollBy 2047 1 rfl 0#32 6#32 <|
  rollBy 2046 2 rfl 1#32 6#32 <|
  rollBy 2044 4 rfl 2#32 6#32 <|
  pairBy 128 8 rfl 2#32 <|
  pairBy 64 16 rfl 1#32 <|
  pairBy 32 32 rfl 0#32 x

/-- The stages merging blocks of 64 rows into blocks of 128, rising and falling in turn. -/
def level7 (x : FVec F (rows 2048 256) .bf16) : FVec F (rows 2048 256) .bf16 :=
  rollBy 2047 1 rfl 0#32 7#32 <|
  rollBy 2046 2 rfl 1#32 7#32 <|
  rollBy 2044 4 rfl 2#32 7#32 <|
  pairBy 128 8 rfl 3#32 <|
  pairBy 64 16 rfl 2#32 <|
  pairBy 32 32 rfl 1#32 <|
  pairBy 16 64 rfl 0#32 x

/-- The stages merging blocks of 128 rows into blocks of 256, rising and falling in turn. -/
def level8 (x : FVec F (rows 2048 256) .bf16) : FVec F (rows 2048 256) .bf16 :=
  rollBy 2047 1 rfl 0#32 8#32 <|
  rollBy 2046 2 rfl 1#32 8#32 <|
  rollBy 2044 4 rfl 2#32 8#32 <|
  pairBy 128 8 rfl 4#32 <|
  pairBy 64 16 rfl 3#32 <|
  pairBy 32 32 rfl 2#32 <|
  pairBy 16 64 rfl 1#32 <|
  pairBy 8 128 rfl 0#32 x

/-- The stages merging blocks of 256 rows into blocks of 512, rising and falling in turn. -/
def level9 (x : FVec F (rows 2048 256) .bf16) : FVec F (rows 2048 256) .bf16 :=
  rollBy 2047 1 rfl 0#32 9#32 <|
  rollBy 2046 2 rfl 1#32 9#32 <|
  rollBy 2044 4 rfl 2#32 9#32 <|
  pairBy 128 8 rfl 5#32 <|
  pairBy 64 16 rfl 4#32 <|
  pairBy 32 32 rfl 3#32 <|
  pairBy 16 64 rfl 2#32 <|
  pairBy 8 128 rfl 1#32 <|
  pairBy 4 256 rfl 0#32 x

/-- The stages merging blocks of 512 rows into blocks of 1024, rising and falling in turn. -/
def level10 (x : FVec F (rows 2048 256) .bf16) : FVec F (rows 2048 256) .bf16 :=
  rollBy 2047 1 rfl 0#32 10#32 <|
  rollBy 2046 2 rfl 1#32 10#32 <|
  rollBy 2044 4 rfl 2#32 10#32 <|
  pairBy 128 8 rfl 6#32 <|
  pairBy 64 16 rfl 5#32 <|
  pairBy 32 32 rfl 4#32 <|
  pairBy 16 64 rfl 3#32 <|
  pairBy 8 128 rfl 2#32 <|
  pairBy 4 256 rfl 1#32 <|
  pairBy 2 512 rfl 0#32 x

/-- The levels of stages inside one device: blocks of 1024 rows in order, rising and falling in turn. -/
def localLevels (x : FVec F (rows 2048 256) .bf16) : FVec F (rows 2048 256) .bf16 :=
  level10 <| level9 <| level8 <| level7 <| level6 <| level5 <| level4 <| level3 <| level2 <| level1 x

/-- The merge of 2048 rows, falling where `d` is set. -/
def mergeDir (d : BitVec 1) (x : FVec F (rows 2048 128) .bf16) : FVec F (rows 2048 128) .bf16 :=
  rollDir 2047 1 rfl 0#32 d <| rollDir 2046 2 rfl 1#32 d <| rollDir 2044 4 rfl 2#32 d <|
  pairDir 128 8 rfl d <| pairDir 64 16 rfl d <| pairDir 32 32 rfl d <| pairDir 16 64 rfl d <|
  pairDir 8 128 rfl d <| pairDir 4 256 rfl d <| pairDir 2 512 rfl d <| pairDir 1 1024 rfl d x

/-- The rising merge of 2048 rows. -/
def mergeAsc (x : FVec F (rows 2048 128) .bf16) : FVec F (rows 2048 128) .bf16 :=
  rollAsc 2047 1 rfl 0#32 <| rollAsc 2046 2 rfl 1#32 <| rollAsc 2044 4 rfl 2#32 <|
  pairAsc 128 8 rfl <| pairAsc 64 16 rfl <| pairAsc 32 32 rfl <| pairAsc 16 64 rfl <|
  pairAsc 8 128 rfl <| pairAsc 4 256 rfl <| pairAsc 2 512 rfl <| pairAsc 1 1024 rfl x

end Cert.Net
end
-- ==== Proof.Body.lean ====
/- The kernel's body in short: its signals, waits, loads, stores and transfers in order, over the sequences of stages of
   `Proof.Stage`. -/
module

public import proofs.«01_k».proof.Proof.Stage

@[expose] public section

namespace Cert.Net

open Idealize.ShloMosaic Idealize.SL.Sem Cert.KernelIdeal
open Cert.KernelIdeal.Facts₀ Cert.KernelIdeal.Facts

variable {F : FTy → Type} [FloatOps F]

/-! ## A device's place among the four -/

/-- The device's number on the mesh, as the kernel computes it. -/
def place (d : Dev nD) : BitVec 32 := Scalar.remsi (Scalar.divsi (Dev.word d) 1#32) 4#32

/-- Whether the device's number is odd. -/
def isOdd (d : Dev nD) : BitVec 1 :=
  have n : BitVec 32 := Scalar.select (Scalar.cmpi .eq 2#32 0#32) 1#32 2#32
  have r : BitVec 32 := Scalar.remsi (place d) n
  Scalar.cmpi .eq
    (Scalar.select (Scalar.andi (Scalar.xori (Scalar.cmpi .slt r 0#32) (Scalar.cmpi .slt n 0#32)) (Scalar.cmpi .ne r 0#32))
      (Scalar.addi r n) r) 1#32

/-- Whether the device is one of the upper two. -/
def isUpper (d : Dev nD) : BitVec 1 := Scalar.cmpi .sge (place d) 2#32

/-- Whether the device is one of the middle two. -/
def isMiddle (d : Dev nD) : BitVec 1 := Scalar.ori (Scalar.cmpi .eq (place d) 1#32) (Scalar.cmpi .eq (place d) 2#32)

/-- The device's neighbour in its pair. -/
def near (d : Dev nD) : Dev nD := ⟨k0_dev1 d, k0_dev1_lt d⟩
/-- The device's counterpart in the other pair. -/
def far (d : Dev nD) : Dev nD := ⟨k0_dev2 d, k0_dev2_lt d⟩

/-- The device a slot's transfers go to. -/
def peer (s : Fin 12) (d : Dev nD) : Dev nD := if 4 ≤ s.val ∧ s.val < 8 then far d else near d

/-! ## The blocks and the semaphores of a slot -/

theorem inb_work (c : Fin 4) : ∀ a, (![c.val, 0, 0] : Fin 3 → Nat) a + S1x2048x128.size a ≤ S4x2048x128.size a := by
  fin_cases c <;> decide

theorem inb_comm (s : Fin 12) : ∀ a, (![s.val, 0, 0] : Fin 3 → Nat) a + S1x2048x128.size a ≤ S12x2048x128.size a := by
  fin_cases s <;> decide

theorem inb_sem (s : Fin 12) : ∀ a, (![s.val] : Fin 1 → Nat) a + S1.size a ≤ S12.size a := by
  fin_cases s <;> decide

/-- Block `c` of the working buffer. -/
abbrev workRect (c : Fin 4) : Rect S4x2048x128 := Rect.unit (s := S4x2048x128) ![c.val, 0, 0] S1x2048x128.size (inb_work c)
/-- Block `s` of the receiving buffer. -/
abbrev commRect (s : Fin 12) : Rect S12x2048x128 := Rect.unit (s := S12x2048x128) ![s.val, 0, 0] S1x2048x128.size (inb_comm s)

theorem work_packed (c : Fin 4) : (workRect c).PackedRows (EltTy.packing .bf16) := by
  fin_cases c
  · exact packedbf16_S4x2048x128_S1x2048x128_0_0_0
  · exact packedbf16_S4x2048x128_S1x2048x128_1_0_0
  · exact packedbf16_S4x2048x128_S1x2048x128_2_0_0
  · exact packedbf16_S4x2048x128_S1x2048x128_3_0_0

theorem work_words (c : Fin 4) : (workRect c).WholeWords (EltTy.packing .bf16) := by
  fin_cases c
  · exact wordsbf16_S4x2048x128_S1x2048x128_0_0_0
  · exact wordsbf16_S4x2048x128_S1x2048x128_1_0_0
  · exact wordsbf16_S4x2048x128_S1x2048x128_2_0_0
  · exact wordsbf16_S4x2048x128_S1x2048x128_3_0_0

theorem comm_words (s : Fin 12) : (commRect s).WholeWords (EltTy.packing .bf16) := by
  fin_cases s
  · exact wordsbf16_S12x2048x128_S1x2048x128_0_0_0
  · exact wordsbf16_S12x2048x128_S1x2048x128_1_0_0
  · exact wordsbf16_S12x2048x128_S1x2048x128_2_0_0
  · exact wordsbf16_S12x2048x128_S1x2048x128_3_0_0
  · exact wordsbf16_S12x2048x128_S1x2048x128_4_0_0
  · exact wordsbf16_S12x2048x128_S1x2048x128_5_0_0
  · exact wordsbf16_S12x2048x128_S1x2048x128_6_0_0
  · exact wordsbf16_S12x2048x128_S1x2048x128_7_0_0
  · exact wordsbf16_S12x2048x128_S1x2048x128_8_0_0
  · exact wordsbf16_S12x2048x128_S1x2048x128_9_0_0
  · exact wordsbf16_S12x2048x128_S1x2048x128_10_0_0
  · exact wordsbf16_S12x2048x128_S1x2048x128_11_0_0

/-- Block `c` of the working buffer, as the transfers name it. -/
abbrev workBlock (w : Memref sig .tc .vmem S4x2048x128 .bf16) (c : Fin 4) : Memref sig .tc .vmem S2048x128 .bf16 :=
  (w.slice (workRect c) (fun _ => rfl)).squeeze S2048x128 squeezes_S1x2048x128_S2048x128
/-- Block `s` of the receiving buffer, as the transfers name it. -/
abbrev commBlock (r : Memref sig .tc .vmem S12x2048x128 .bf16) (s : Fin 12) : Memref sig .tc .vmem S2048x128 .bf16 :=
  (r.slice (commRect s) (fun _ => rfl)).squeeze S2048x128 squeezes_S1x2048x128_S2048x128
/-- Semaphore `s` of an array of twelve. -/
abbrev semAt (q : DmaSems sig S12) (s : Fin 12) : DmaSem sig :=
  ((q.slice (Rect.unit (s := S12) ![s.val] S1.size (inb_sem s))).squeeze S_ squeezes_S1_S_).sem

theorem workBlock_words (w : Memref sig .tc .vmem S4x2048x128 .bf16) (hw : w.IsWhole) (c : Fin 4) : (workBlock w c).view.WordExact := (hw.wordExact_slice rfl _ (work_words c)).reshape _ _
theorem commBlock_words (r : Memref sig .tc .vmem S12x2048x128 .bf16) (hr : r.IsWhole) (s : Fin 12) : (commBlock r s).view.WordExact := (hr.wordExact_slice rfl _ (comm_words s)).reshape _ _

/-- Put a chunk in its working block and send it to block `s` of device `q`. -/
noncomputable def sendChunk (w : Memref sig .tc .vmem S4x2048x128 .bf16) (hw : w.IsWhole) (r : Memref sig .tc .vmem S12x2048x128 .bf16) (hr : r.IsWhole)
    (sendS recvS : DmaSems sig S12) (c : Fin 4) (s : Fin 12) (q : Dev nD) (x : FVec F S2048x128 .bf16) :
    Prog (TpuEff nD τ sig (Elt F) Λ₀ .tc) PUnit := do
  let _ : Vec F S1x2048x128 .bf16 ← Prog.lift (.load w (workRect c).toLoadRect (View.loadsAt_vmem h_S1x2048x128))
  Prog.lift (.store w (workRect c) (shapeCast S1x2048x128 x shapeCasts_S2048x128_S1x2048x128) Finset.univ
    (View.stores_vmem h_S1x2048x128 (hw.storeExact_slice rfl _ (work_packed c)) (fun _ => rfl)) (.inl rfl))
  Prog.lift (.enqueueDma (workBlock w c) (.remote (Dev.tc q) (commBlock r s) (.dma (semAt sendS s))) (.dma (semAt recvS s))
    (workBlock_words w hw c) (commBlock_words r hr s) ⟨⟨rfl, Or.inl rfl⟩, trivial⟩)

/-- Wait until the transfer of slot `s` has gone and the one of the same slot has come, and read what came. -/
noncomputable def takeChunk (w : Memref sig .tc .vmem S4x2048x128 .bf16) (hw : w.IsWhole) (r : Memref sig .tc .vmem S12x2048x128 .bf16) (hr : r.IsWhole)
    (sendS recvS : DmaSems sig S12) (c : Fin 4) (s : Fin 12) : Prog (TpuEff nD τ sig (Elt F) Λ₀ .tc) (FVec F S2048x128 .bf16) := do
  Prog.lift (.waitDma2 (semAt sendS s) (commBlock r s) (workBlock w c) (commBlock_words r hr s) (workBlock_words w hw c))
  Prog.lift (.waitDma2 (semAt recvS s) (workBlock w c) (commBlock r s) (workBlock_words w hw c) (commBlock_words r hr s))
  let v : Vec F S1x2048x128 .bf16 ← Prog.lift (.load r (commRect s).toLoadRect (View.loadsAt_vmem h_S1x2048x128))
  pure (shapeCast S2048x128 v shapeCasts_S1x2048x128_S2048x128)

theorem inb_in (h : Fin 2) : ∀ a, (![0, h.val * 256] : Fin 2 → Nat) a + S2048x256.size a ≤ S2048x512.size a := by
  fin_cases h <;> decide
theorem inb_out (c : Fin 4) : ∀ a, (![0, c.val * 128] : Fin 2 → Nat) a + S2048x128.size a ≤ S2048x512.size a := by
  fin_cases c <;> decide

/-- Half `h` of the block's columns. -/
abbrev inRect (h : Fin 2) : Rect S2048x512 := Rect.unit (s := S2048x512) ![0, h.val * 256] S2048x256.size (inb_in h)
/-- Chunk `c` of the block's columns. -/
abbrev outRect (c : Fin 4) : Rect S2048x512 := Rect.unit (s := S2048x512) ![0, c.val * 128] S2048x128.size (inb_out c)

/-- Keep the greater of one's own chunk and the partner's where `b` is set, the lesser elsewhere. -/
def exchange (b : BitVec 1) (x y : FVec F S2048x128 .bf16) : FVec F S2048x128 .bf16 := Scalar.select b (maximumf x y) (minimumf x y)

/-- The two chunks of a half. -/
def chunkOf (o : Fin 2) (x : FVec F S2048x256 .bf16) : FVec F S2048x128 .bf16 :=
  extractStridedSlice S2048x128 ![0, o.val * 128] x
    ⟨rfl, fun a => by fin_cases o <;> fin_cases a <;> decide⟩

/-- Read half `h` of the block. -/
noncomputable def readHalf (a : Memref sig .tc .vmem S2048x512 .bf16) (h : Fin 2) : Prog (TpuEff nD τ sig (Elt F) Λ₀ .tc) (FVec F S2048x256 .bf16) := do
  let v : Vec F S2048x256 .bf16 ← Prog.lift (.load a (inRect h).toLoadRect (View.loadsAt_vmem h_S2048x256))
  pure (shapeCast S2048x256 v shapeCasts_S2048x256_S2048x256)

/-- Write chunk `c` of the result. -/
noncomputable def writeChunk (o : Memref sig .tc .vmem S2048x512 .f32) (c : Fin 4) (x : FVec F S2048x128 .bf16) :
    Prog (TpuEff nD τ sig (Elt F) Λ₀ .tc) PUnit := do
  let _ : Vec F S2048x128 .f32 ← Prog.lift (.load o (outRect c).toLoadRect (View.loadsAt_vmem h_S2048x128))
  Prog.lift (.store o (outRect c) (extf .f32 x bitsLt_bf16_f32) Finset.univ (View.stores_vmem_bits_univ h_S2048x128 rfl) (.inl rfl))

/-- The barrier's semaphore. -/
abbrev gate : Sem sig := (SemArray.scalar (sig.barrier 0 rfl) : Sems sig S_).sem

/-- The whole body. -/
noncomputable def body (a : Memref sig .tc .vmem S2048x512 .bf16) (o : Memref sig .tc .vmem S2048x512 .f32)
    (w : Memref sig .tc .vmem S4x2048x128 .bf16) (hw : w.IsWhole) (r : Memref sig .tc .vmem S12x2048x128 .bf16) (hr : r.IsWhole)
    (sendS recvS : DmaSems sig S12) : Prog (TpuEff nD τ sig (Elt F) Λ₀ .tc) PUnit := do
  let d : Dev nD ← Prog.lift .deviceId
  semSignalWord (near d) gate 1#32
  semSignalWord (far d) gate 1#32
  semWaitWord gate 2#32
  let h0 : FVec F S2048x256 .bf16 ← readHalf a 0
  have x0 := mergeDir (isOdd d) (chunkOf 0 (localLevels h0))
  sendChunk w hw r hr sendS recvS 0 0 (near d) x0
  have x1 := mergeDir (isOdd d) (chunkOf 1 (localLevels h0))
  sendChunk w hw r hr sendS recvS 1 1 (near d) x1
  let h1 : FVec F S2048x256 .bf16 ← readHalf a 1
  have x2 := mergeDir (isOdd d) (chunkOf 0 (localLevels h1))
  sendChunk w hw r hr sendS recvS 2 2 (near d) x2
  have x3 := mergeDir (isOdd d) (chunkOf 1 (localLevels h1))
  sendChunk w hw r hr sendS recvS 3 3 (near d) x3
  let y0 : FVec F S2048x128 .bf16 ← takeChunk w hw r hr sendS recvS 0 0
  have x0 := mergeDir (isUpper d) (exchange (isMiddle d) x0 y0)
  sendChunk w hw r hr sendS recvS 0 4 (far d) x0
  let y1 : FVec F S2048x128 .bf16 ← takeChunk w hw r hr sendS recvS 1 1
  have x1 := mergeDir (isUpper d) (exchange (isMiddle d) x1 y1)
  sendChunk w hw r hr sendS recvS 1 5 (far d) x1
  let y2 : FVec F S2048x128 .bf16 ← takeChunk w hw r hr sendS recvS 2 2
  have x2 := mergeDir (isUpper d) (exchange (isMiddle d) x2 y2)
  sendChunk w hw r hr sendS recvS 2 6 (far d) x2
  let y3 : FVec F S2048x128 .bf16 ← takeChunk w hw r hr sendS recvS 3 3
  have x3 := mergeDir (isUpper d) (exchange (isMiddle d) x3 y3)
  sendChunk w hw r hr sendS recvS 3 7 (far d) x3
  let y0 : FVec F S2048x128 .bf16 ← takeChunk w hw r hr sendS recvS 0 4
  have x0 := exchange (isUpper d) x0 y0
  sendChunk w hw r hr sendS recvS 0 8 (near d) x0
  let y1 : FVec F S2048x128 .bf16 ← takeChunk w hw r hr sendS recvS 1 5
  have x1 := exchange (isUpper d) x1 y1
  sendChunk w hw r hr sendS recvS 1 9 (near d) x1
  let y0 : FVec F S2048x128 .bf16 ← takeChunk w hw r hr sendS recvS 0 8
  writeChunk o 0 (mergeAsc (exchange (isOdd d) x0 y0))
  let y2 : FVec F S2048x128 .bf16 ← takeChunk w hw r hr sendS recvS 2 6
  have x2 := exchange (isUpper d) x2 y2
  sendChunk w hw r hr sendS recvS 2 10 (near d) x2
  let y1 : FVec F S2048x128 .bf16 ← takeChunk w hw r hr sendS recvS 1 9
  writeChunk o 1 (mergeAsc (exchange (isOdd d) x1 y1))
  let y3 : FVec F S2048x128 .bf16 ← takeChunk w hw r hr sendS recvS 3 7
  have x3 := exchange (isUpper d) x3 y3
  sendChunk w hw r hr sendS recvS 3 11 (near d) x3
  let y2 : FVec F S2048x128 .bf16 ← takeChunk w hw r hr sendS recvS 2 10
  writeChunk o 2 (mergeAsc (exchange (isOdd d) x2 y2))
  let y3 : FVec F S2048x128 .bf16 ← takeChunk w hw r hr sendS recvS 3 11
  writeChunk o 3 (mergeAsc (exchange (isOdd d) x3 y3))

set_option maxRecDepth 100000 in
set_option maxHeartbeats 0 in
/-- The kernel's body is this one. -/
theorem cc0_body_eq (a : Memref sig .tc .vmem S2048x512 .bf16) (ha : a.IsWhole) (o : Memref sig .tc .vmem S2048x512 .f32) (ho : o.IsWhole)
    (w : Memref sig .tc .vmem S4x2048x128 .bf16) (hw : w.IsWhole) (r : Memref sig .tc .vmem S12x2048x128 .bf16) (hr : r.IsWhole)
    (sendS recvS : DmaSems sig S12) :
    cc0_body (F := F) a ha o ho w hw r hr sendS recvS = body a o w hw r hr sendS recvS := rfl

end Cert.Net
end
-- ==== Proof.Protocol.lean ====
/- The protocol of the sort's transfers: what each semaphore's units stand for, what each device owes, and in which order
   the semaphores may be waited on.

   A device has one barrier cell, twelve cells for its outgoing transfers and twelve for the incoming ones, each used for
   one round. Its barrier cell is paid by its neighbour and by its counterpart, one unit each, and each hands over the
   receiving blocks the device will send to. An incoming cell's payload is the receiving block holding what the peer sent
   (`sent`); an outgoing cell's payload is the working block the transfer read. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the launch's own, and the protocol's with two duty names. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Who exchanges with whom -/

theorem near_near (c : Dev nD) : near (near c) = c := by revert c; decide
theorem far_far (c : Dev nD) : far (far c) = c := by revert c; decide

theorem peer_peer (s : Fin 12) (c : Dev nD) : peer s (peer s c) = c := by
  unfold peer; split
  · exact far_far c
  · exact near_near c

theorem peer_far {s : Fin 12} (h : 4 ≤ s.val ∧ s.val < 8) (c : Dev nD) : peer s c = far c := if_pos h
theorem peer_near {s : Fin 12} (h : ¬ (4 ≤ s.val ∧ s.val < 8)) (c : Dev nD) : peer s c = near c := if_neg h

def nearSwap : Dev nD ≃ Dev nD := ⟨near, near, near_near, near_near⟩
def farSwap : Dev nD ≃ Dev nD := ⟨far, far, far_far, far_far⟩
def peerSwap (s : Fin 12) : Dev nD ≃ Dev nD := ⟨peer s, peer s, peer_peer s, peer_peer s⟩

/-! ## Buffers and cells -/

abbrev xM : Memref sig .tc .vmem S2048x512 .bf16 := Memref.whole cc0_stg0_0
abbrev oM : Memref sig .tc .vmem S2048x512 .f32 := Memref.whole cc0_stg1_0
abbrev wM : Memref sig .tc .vmem S4x2048x128 .bf16 := Memref.whole cc0_scratch0
abbrev rM : Memref sig .tc .vmem S12x2048x128 .bf16 := Memref.whole cc0_scratch1

abbrev sendSem (s : Fin 12) : DmaSem sig := semAt cc0_scratch2 s
abbrev recvSem (s : Fin 12) : DmaSem sig := semAt cc0_scratch3 s

/-- The semaphores of a device: the barrier's, one for each outgoing transfer, one for each incoming one. -/
abbrev SemKind : Type := Unit ⊕ (Fin 12 ⊕ Fin 12)
/-- The kernel's own ones. -/
abbrev osem : Fin 12 ⊕ Fin 12 → SemLoc sig
  | .inl s => .dma (sendSem s)
  | .inr s => .dma (recvSem s)
abbrev csem : SemKind → SemLoc sig
  | .inl _ => .reg gate
  | .inr k => osem k
abbrev kcell (ck : Dev nD × SemKind) : GSem nD τ sig := ((ck.1 : Thread nD τ), csem ck.2)

abbrev gateCell (c : Dev nD) : GSem nD τ sig := kcell (c, .inl ())
abbrev sendCell (s : Fin 12) (c : Dev nD) : GSem nD τ sig := kcell (c, .inr (.inl s))
abbrev recvCell (s : Fin 12) (c : Dev nD) : GSem nD τ sig := kcell (c, .inr (.inr s))

theorem osem_injective : Function.Injective osem := by decide
theorem csem_injective : Function.Injective csem := by
  rintro (⟨⟩ | k) (⟨⟩ | k') h
  · rfl
  · rcases k' with s | s <;> cases h
  · rcases k with s | s <;> cases h
  · exact congrArg _ (osem_injective h)

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-- Which of a device's semaphores one is. -/
def kindOf (sm : SemLoc sig) : Option SemKind := Function.partialInv csem sm
theorem kindOf_csem (k : SemKind) : kindOf (csem k) = some k := Function.partialInv_left csem_injective k

/-- The credit of one block. -/
abbrev N : ℕ := (commBlock rM 0).view.dmaCredit
theorem N_pos : 0 < N := View.dmaCredit_pos _ (by decide)
theorem comm_credit (s : Fin 12) : (commBlock rM s).view.dmaCredit = N := rfl
theorem work_credit (k : Fin 4) : (workBlock wM k).view.dmaCredit = N := rfl

/-! ## What travels -/

/-- The device's block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- Half `h` of its columns. -/
def halfIn (c : Dev nD) (h : Fin 2) : FVec F S2048x256 .bf16 :=
  shapeCast S2048x256 ((xM.access (inRect h)).read (Elt F) (xstg m ρ c)) Facts₀.shapeCasts_S2048x256_S2048x256

/-- The half a chunk lies in, and its place in the half. -/
def halfNo : Fin 4 → Fin 2 := ![0, 0, 1, 1]
def sideNo : Fin 4 → Fin 2 := ![0, 1, 0, 1]

/-- Chunk `k` of the device's block after its local sort and first merge; -/
def lvl0 (c : Dev nD) (k : Fin 4) : FVec F S2048x128 .bf16 :=
  mergeDir (isOdd c) (chunkOf (sideNo k) (localLevels (halfIn m ρ c (halfNo k))))
/-- after the exchange with the neighbour and the second merge; -/
def lvl1 (c : Dev nD) (k : Fin 4) : FVec F S2048x128 .bf16 :=
  mergeDir (isUpper c) (exchange (isMiddle c) (lvl0 m ρ c k) (lvl0 m ρ (near c) k))
/-- after the exchange with the counterpart; -/
def lvl2 (c : Dev nD) (k : Fin 4) : FVec F S2048x128 .bf16 :=
  exchange (isUpper c) (lvl1 m ρ c k) (lvl1 m ρ (far c) k)
/-- after the last exchange and merge. -/
def lvl3 (c : Dev nD) (k : Fin 4) : FVec F S2048x128 .bf16 :=
  mergeAsc (exchange (isOdd c) (lvl2 m ρ c k) (lvl2 m ρ (near c) k))

/-- The chunk a slot carries. -/
def chunkNo : Fin 12 → Fin 4 := ![0, 1, 2, 3, 0, 1, 2, 3, 0, 1, 2, 3]

/-- What a device sends through a slot. -/
def sent (c : Dev nD) (s : Fin 12) : FVec F S2048x128 .bf16 :=
  if s.val < 4 then lvl0 m ρ c (chunkNo s) else if s.val < 8 then lvl1 m ρ c (chunkNo s) else lvl2 m ρ c (chunkNo s)

/-! ## The schedule -/

/-- A device's receiving block of a slot, at any contents. -/
def landing (s : Fin 12) (c : Dev nD) : sProp 𝕄 := iprop(∃ X, owns (c : Thread nD τ) (commBlock rM s) fullShare X)
/-- A device's working block, at any contents. -/
def working (k : Fin 4) (c : Dev nD) : sProp 𝕄 := iprop(∃ X, owns (c : Thread nD τ) (workBlock wM k) fullShare X)
/-- A device's receiving block holding what its peer sent. -/
def arrived (s : Fin 12) (c : Dev nD) : sProp 𝕄 := owns (c : Thread nD τ) (commBlock rM s) fullShare (sent m ρ (peer s c) s)

abbrev farSlots : Finset (Fin 12) := Finset.univ.filter fun s => 4 ≤ s.val ∧ s.val < 8
abbrev nearSlots : Finset (Fin 12) := Finset.univ.filter fun s => ¬ (4 ≤ s.val ∧ s.val < 8)

/-- What a unit of the barrier hands over: from the neighbour its blocks of the slots between the two, from the
    counterpart likewise. -/
def gatePay (c : Dev nD) (d : Bool) : sProp 𝕄 :=
  if d then bigSep farSlots fun s => landing s (far c) else bigSep nearSlots fun s => landing s (near c)

instance landing_storable (s : Fin 12) (c : Dev nD) : BI.Storable (upEmb : UEmb _ 𝕄) (landing (F := F) s c) := by unfold landing; infer_instance
instance working_storable (k : Fin 4) (c : Dev nD) : BI.Storable (upEmb : UEmb _ 𝕄) (working (F := F) k c) := by unfold working; infer_instance
instance arrived_storable (s : Fin 12) (c : Dev nD) : BI.Storable (upEmb : UEmb _ 𝕄) (arrived m ρ s c) := by unfold arrived; infer_instance
instance gatePay_storable (c : Dev nD) (d : Bool) : BI.Storable (upEmb : UEmb _ 𝕄) (gatePay (F := F) c d) := by
  unfold gatePay; split <;> infer_instance

def dutiesOf : Option SemKind → Finset Bool
  | some (.inl _) => Finset.univ
  | some (.inr _) => {false}
  | none => ∅
def amountOf : Option SemKind → ℕ
  | some (.inl _) => 1
  | _ => N
def payOf (c : Dev nD) (d : Bool) : Option SemKind → sProp 𝕄
  | some (.inl _) => gatePay c d
  | some (.inr (.inl s)) => working (chunkNo s) c
  | some (.inr (.inr s)) => arrived m ρ s c
  | none => iprop(emp)

instance payOf_storable (c : Dev nD) (d : Bool) (k : Option SemKind) : BI.Storable (upEmb : UEmb _ 𝕄) (payOf m ρ c d k) := by
  rcases k with _ | _ | _ | _ <;> unfold payOf <;> infer_instance

/-- Every cell is used for the one round 0. -/
def sched : Rounds.Schedule (GSem nD τ sig) Bool 𝕄 where
  duties g r := if r = 0 ∧ g.1.2 = .tc then dutiesOf (kindOf g.2) else ∅
  unitless _ := False
  amount g _ _ := amountOf (kindOf g.2)
  payload g _ d := payOf m ρ g.1.1 d (kindOf g.2)
  amount_pos g _ _ _ := by
    rcases kindOf g.2 with _ | _ | _
    · exact N_pos
    · exact Nat.one_pos
    · exact N_pos

instance sched_payload_storable (g : GSem nD τ sig) (r : ℕ) (d : Bool) :
    BI.Storable (upEmb : UEmb _ 𝕄) ((sched m ρ).payload g r d) := payOf_storable m ρ g.1.1 d (kindOf g.2)

theorem duties_kcell (ck : Dev nD × SemKind) : (sched m ρ).duties (kcell ck) 0 = dutiesOf (some ck.2) := by
  dsimp only [sched]; rw [if_pos ⟨rfl, rfl⟩, kindOf_csem]
theorem duties_later (g : GSem nD τ sig) : ∀ r, 1 ≤ r → (sched m ρ).duties g r = ∅ :=
  fun r hr => if_neg fun h => by omega
theorem amount_kcell (ck : Dev nD × SemKind) (r : ℕ) (d : Bool) : (sched m ρ).amount (kcell ck) r d = amountOf (some ck.2) := by
  dsimp only [sched]; rw [kindOf_csem]
theorem payload_kcell (ck : Dev nD × SemKind) (r : ℕ) (d : Bool) : (sched m ρ).payload (kcell ck) r d = payOf m ρ ck.1 d (some ck.2) := by
  dsimp only [sched]; rw [kindOf_csem]

theorem expect_gate (c : Dev nD) : (sched m ρ).expect (gateCell c) 0 = 2 := by
  unfold Schedule.expect Schedule.amountOf
  rw [duties_kcell, Finset.sum_congr rfl fun d _ => amount_kcell m ρ (c, .inl ()) 0 d]; rfl
theorem expect_own (c : Dev nD) (k : Fin 12 ⊕ Fin 12) : (sched m ρ).expect (kcell (c, .inr k)) 0 = N := by
  unfold Schedule.expect Schedule.amountOf
  rw [duties_kcell, Finset.sum_congr rfl fun d _ => amount_kcell m ρ (c, .inr k) 0 d]
  exact Finset.sum_singleton _ _

theorem rest_own (c : Dev nD) (k : Fin 12 ⊕ Fin 12) :
    bigSep ((sched m ρ).duties (kcell (c, .inr k)) 0 \ ∅) (fun d => (sched m ρ).payload (kcell (c, .inr k)) 0 d) = payOf m ρ c false (some (.inr k)) := by
  rw [Finset.sdiff_empty, duties_kcell]
  exact (bigSep_singleton).trans (payload_kcell m ρ (c, .inr k) 0 false)

/-- All that the barrier hands over: the peer's receiving block of each slot. -/
theorem rest_gate (c : Dev nD) :
    bigSep ((sched m ρ).duties (gateCell c) 0 \ ∅) (fun d => (sched m ρ).payload (gateCell c) 0 d)
      = bigSep Finset.univ fun s => landing (F := F) s (peer s c) := by
  rw [Finset.sdiff_empty, duties_kcell, show dutiesOf (some (Sum.inl ())) = Finset.univ from rfl,
    bigSep_univ_eq_bigSepL [false, true] (by decide) (by decide), bigSepL_cons_cons, bigSepL_singleton,
    payload_kcell, payload_kcell]
  unfold payOf gatePay
  rw [if_pos rfl, if_neg Bool.false_ne_true,
    bigSep_congr (s := nearSlots) (fun s hs => by rw [← peer_near (Finset.mem_filter.mp hs).2 c]),
    bigSep_congr (s := farSlots) (fun s hs => by rw [← peer_far (Finset.mem_filter.mp hs).2 c]),
    show (Finset.univ : Finset (Fin 12)) = nearSlots ∪ farSlots by decide, bigSep_union (by decide)]

/-! ## What is owed, and the order of the waits -/

/-- What a device still owes before it sends slot `n`: each later slot's credit to its peer. -/
def owedFrom (c : Dev nD) (n : ℕ) : CellTallies nD τ sig Unit :=
  ∑ s ∈ (Finset.univ : Finset (Fin 12)).filter (fun s => n ≤ s.val), tallyAt (recvCell s (peer s c)) () N

theorem owedFrom_step (c : Dev nD) (s : Fin 12) :
    owedFrom c s.val = owedFrom c (s.val + 1) + tallyAt (recvCell s (peer s c)) () N := by
  unfold owedFrom
  rw [show (Finset.univ : Finset (Fin 12)).filter (fun t => s.val ≤ t.val)
      = insert s ((Finset.univ : Finset (Fin 12)).filter fun t => s.val + 1 ≤ t.val) from by
    ext t; simp only [Finset.mem_filter, Finset.mem_univ, true_and, Finset.mem_insert, Fin.ext_iff]; omega,
    Finset.sum_insert (by simp), add_comm]

theorem owedFrom_end (c : Dev nD) : owedFrom c 12 = 0 := by
  unfold owedFrom
  rw [Finset.filter_false_of_mem fun s _ => by omega, Finset.sum_empty]

/-- At launch it owes those and a unit to its neighbour's and its counterpart's barrier. -/
def O₁ (c : Dev nD) : CellTallies nD τ sig Unit := owedFrom c 0 + tallyAt (gateCell (far c)) () 1
def O₀ (c : Dev nD) : CellTallies nD τ sig Unit := O₁ c + tallyAt (gateCell (near c)) () 1

theorem owedFrom_apply (c : Dev nD) (n : ℕ) (g : GSem nD τ sig) (u : Unit) :
    owedFrom c n g u = ∑ s ∈ (Finset.univ : Finset (Fin 12)).filter (fun s => n ≤ s.val), tallyAt (recvCell s (peer s c)) () N g u := by
  unfold owedFrom; rw [Finset.sum_apply, Finsupp.finset_sum_apply]

theorem owedFrom_pos {c : Dev nD} {n : ℕ} {g : GSem nD τ sig} {u : Unit} (h : 0 < owedFrom c n g u) :
    ∃ s : Fin 12, n ≤ s.val ∧ g = recvCell s (peer s c) := by
  rw [owedFrom_apply] at h
  obtain ⟨s, hs, hp⟩ := Finset.exists_ne_zero_of_sum_ne_zero (Nat.pos_iff_ne_zero.mp h)
  refine ⟨s, (Finset.mem_filter.mp hs).2, ?_⟩
  rw [tallyAt_apply] at hp
  by_contra hg
  exact hp (if_neg fun h' => hg h'.1)

def L (g : GSem nD τ sig) : Finset Unit := if g.1.2 = .tc then {()} else ∅
/-- The order of the waits: outgoing cells first, then the barrier, then the incoming ones by slot. -/
def levelOf : Option SemKind → ℕ
  | some (.inl _) => 1
  | some (.inr (.inr s)) => 2 + s.val
  | _ => 0
def lv (g : GSem nD τ sig) (_ : Unit) : ℕ := levelOf (kindOf g.2)

theorem L_of_ne (g : GSem nD τ sig) (h : g.1.2 ≠ .tc) : L g = ∅ := if_neg h
theorem L_tc (g : GSem nD τ sig) (h : g.1.2 = .tc) (u : Unit) : u ∈ L g := by
  unfold L; rw [if_pos h]; exact Finset.mem_singleton_self _
theorem lv_kcell (ck : Dev nD × SemKind) (u : Unit) : lv (kcell ck) u = levelOf (some ck.2) := by
  unfold lv; rw [kindOf_csem]

theorem O₀_pos {c : Dev nD} {g : GSem nD τ sig} {u : Unit} (h : 0 < O₀ c g u) : g.1.2 = .tc ∧ 0 < lv g u := by
  unfold O₀ O₁ at h
  rw [Pi.add_apply, Finsupp.add_apply, Pi.add_apply, Finsupp.add_apply, tallyAt_apply, tallyAt_apply] at h
  by_cases h1 : g = gateCell (near c) ∧ u = ()
  · rw [h1.1]; exact ⟨rfl, by rw [lv_kcell]; exact Nat.one_pos⟩
  · by_cases h2 : g = gateCell (far c) ∧ u = ()
    · rw [h2.1]; exact ⟨rfl, by rw [lv_kcell]; exact Nat.one_pos⟩
    · rw [if_neg h1, if_neg h2] at h
      obtain ⟨s, -, rfl⟩ := owedFrom_pos (Nat.pos_of_ne_zero fun h0 => by rw [h0] at h; exact Nat.lt_irrefl 0 h)
      exact ⟨rfl, by rw [lv_kcell]; exact Nat.lt_of_lt_of_le Nat.two_pos (Nat.le_add_right _ _)⟩

/-- A wait is allowed below all that is owed. -/
theorem mayWait_of (c : Dev nD) (sm : SemLoc sig) (O : CellTallies nD τ sig Unit) (b : ℕ) (hb : levelOf (kindOf sm) ≤ b)
    (hO : ∀ g u, 0 < O g u → g.1.2 = .tc ∧ b < lv g u) : (levAts L lv : sProp 𝕄) ⊢ MayWait (c : Thread nD τ) sm () O :=
  MayOwe.of_cut (L := L) (lev := lv) b (fun p hp => by rw [Finset.mem_singleton.mp hp]; exact L_tc _ rfl _)
    (fun g u hg => L_tc _ (hO g u hg).1 u)
    (fun p hp => by rw [Finset.mem_singleton.mp hp]; exact hb)
    (fun g u hg => (hO g u hg).2)

/-- Having sent the slots below `n`, a device may wait on any cell but the incoming ones from `n` on. -/
theorem mayWait_kcell (c : Dev nD) (k : SemKind) (n : ℕ) (h : levelOf (some k) < 2 + n) :
    (levAts L lv : sProp 𝕄) ⊢ MayWait (c : Thread nD τ) (csem k) () (owedFrom c n) :=
  mayWait_of c (csem k) _ (1 + n) (by rw [kindOf_csem]; omega) fun g u hg => by
    obtain ⟨s, hs, rfl⟩ := owedFrom_pos hg
    exact ⟨rfl, by rw [lv_kcell]; show 1 + n < 2 + s.val; omega⟩

end Cert.Net
end
-- ==== Proof.Slots.lean ====
/- One rule for sending a chunk through a slot and one for taking what a slot brought, for every slot at once. -/
module

public import proofs.«01_k».proof.Proof.Protocol
public import Idealize.ShloMosaic.Lib.Pipeline.Value

@[expose] public section

noncomputable section

namespace Cert.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- A device's run of a piece of the body. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The resources of a slot -/

/-- Every cell's invariant, and that every cell has reached its round. -/
def records (K : Dev nD × SemKind → ℕ) : sProp 𝕄 :=
  iprop((bigSep Finset.univ fun ck : Dev nD × SemKind => cellInv ER (sched m ρ) (K ck) (kcell ck))
    ∗ bigSep Finset.univ fun ck : Dev nD × SemKind => reached ER (kcell ck) 0)

instance records_persistent (K : Dev nD × SemKind → ℕ) : BI.Persistent (records m ρ K) := by unfold records; infer_instance

theorem inv_at (K : Dev nD × SemKind → ℕ) (ck : Dev nD × SemKind) :
    records m ρ K ⊢ cellInv ER (sched m ρ) (K ck) (kcell ck) := by
  unfold records
  exact (sep_elim_left).trans (bigSep_elim (Φ := fun ck => (cellInv ER (sched m ρ) (K ck) (kcell ck) : sProp 𝕄)) (Finset.mem_univ ck))
theorem reached_at (K : Dev nD × SemKind → ℕ) (ck : Dev nD × SemKind) : records m ρ K ⊢ reached ER (kcell ck) 0 := by
  unfold records
  exact (sep_elim_right).trans (bigSep_elim (Φ := fun ck => (reached ER (kcell ck) 0 : sProp 𝕄)) (Finset.mem_univ ck))

/-- What a device pays a slot's transfer with. -/
def payRes (s : Fin 12) (c : Dev nD) : sProp 𝕄 :=
  iprop(dutyTok ER (sendCell s c) 0 false ∗ dutyTok ER (recvCell s (peer s c)) 0 false)
/-- What it waits on a slot with. -/
def takeRes (s : Fin 12) (c : Dev nD) : sProp 𝕄 :=
  iprop(atPos ER (sendCell s c) 0 ∅ 0 ∗ atPos ER (recvCell s c) 0 ∅ 0 ∗ cred (tallyAt (recvCell s c) () N))
/-- A transfer under way. -/
def underway (s : Fin 12) (c : Dev nD) : sProp 𝕄 := cred (tallyAt (sendCell s c) () N)
/-- A slot done with: both counters at zero, the receiving block the device's own. -/
def closed (s : Fin 12) (c : Dev nD) : sProp 𝕄 :=
  iprop((semVal (sendCell s c) 0 ∗ semVal (recvCell s c) 0) ∗ landing s c)
/-- What a device owes, whatever it has waited on. -/
def owing (c : Dev nD) (O : CellTallies nD τ sig Unit) : sProp 𝕄 := iprop(∃ W, owes (c : Thread nD τ) O W)

/-! ## Sending -/

theorem stored_block (k : Fin 4) (f : (cc0_scratch0 : Ref sig .tc).ty.Contents (Elt F)) (x : FVec F S2048x128 .bf16) :
    (workBlock wM k).view.read (Elt F)
      ((wM.access (workRect k)).write (Elt F) f (shapeCast S1x2048x128 x Facts₀.shapeCasts_S2048x128_S1x2048x128) Finset.univ) = x := by
  have h : (wM.access (workRect k)).read (Elt F)
      ((wM.access (workRect k)).write (Elt F) f (shapeCast S1x2048x128 x Facts₀.shapeCasts_S2048x128_S1x2048x128) Finset.univ)
      = shapeCast S1x2048x128 x Facts₀.shapeCasts_S2048x128_S1x2048x128 := View.read_write_univ _ _
  exact (congrArg (fun y => shapeCast S2048x128 y Facts₀.shapeCasts_S1x2048x128_S2048x128) h).trans
    (shapeCast_shapeCast x Facts₀.shapeCasts_S2048x128_S1x2048x128 Facts₀.shapeCasts_S1x2048x128_S2048x128)

theorem work_set (k : Fin 4) : (workBlock wM k).view.set = (wM.access (workRect k)).set := View.set_reshape _ _
theorem comm_set (s : Fin 12) : (commBlock rM s).view.set = (rM.access (commRect s)).set := View.set_reshape _ _

theorem working_of (k : Fin 4) (c : Dev nD) (f : Buf (Elt F) ((workBlock wM k).view.loc (c : Thread nD τ))) :
    ((workBlock wM k).view.loc (c : Thread nD τ) ↦[(workBlock wM k).view.set]{fullShare} f) ⊢ (working k c : sProp 𝕄) := by
  unfold working
  iintro H; iexists _
  iapply (owns_intro (c : Thread nD τ) (workBlock wM k) fullShare f); iexact H

/-- A working block holding a slot's chunk, copied into the peer's receiving block, is what the peer's cell promises. -/
theorem arrived_of (s : Fin 12) (c : Dev nD) (g : Buf (Elt F) ((commBlock rM s).view.loc (peer s c : Thread nD τ)))
    (f : (cc0_scratch0 : Ref sig .tc).ty.Contents (Elt F)) (hf : (workBlock wM (chunkNo s)).view.read (Elt F) f = sent m ρ c s) :
    ((commBlock rM s).view.loc (peer s c : Thread nD τ) ↦[(commBlock rM s).view.set]{fullShare}
        ((commBlock rM s).view.write (Elt F) g ((workBlock wM (chunkNo s)).view.read (Elt F) f) Finset.univ))
      ⊢ arrived m ρ s (peer s c) := by
  unfold arrived
  rw [peer_peer, hf]
  refine (owns_intro (peer s c : Thread nD τ) (commBlock rM s) fullShare _).trans (Entails.of_eq ?_)
  rw [View.read_write_univ]

/-- Sending a chunk: the working block and the peer's receiving block go with it. -/
theorem send_rule (K : Dev nD × SemKind → ℕ) (c q : Dev nD) (s : Fin 12) (k : Fin 4) (n n' : ℕ) (x : FVec F S2048x128 .bf16)
    (hq : q = peer s c) (hk : k = chunkNo s) (hn : n = s.val) (hn' : n' = s.val + 1) (hx : x = sent m ρ c s) (Q : PUnit → sProp 𝕄) :
    iprop(records m ρ K ∗ working k c ∗ landing s (peer s c) ∗ owing c (owedFrom c n) ∗ payRes s c)
      ⊢ iprop(((underway s c ∗ owing c (owedFrom c n')) -∗ Q ⟨⟩)
        -∗ run c (sendChunk wM (Memref.isWhole_whole _) rM (Memref.isWhole_whole _) cc0_scratch2 cc0_scratch3 k s q x) Q) := by
  subst hq hk hn hn' hx
  unfold sendChunk run working landing owing payRes underway owns
  simp only [Prog.lift, Prog.bind_op, Prog.bind_ret]
  iintro ⟨#HR, ⟨%X, %f, %hf, Hw⟩, ⟨%Y, %g, %hg, Hl⟩, ⟨%W, HO⟩, HtS, HtV⟩ Hk
  rw [work_set]
  iapply (wp_load_rect 𝒱₀ (c : Thread nD τ) none Set.univ (m := wM) (r := workRect (chunkNo s)) (Finset.Subset.refl _)) $$ Hw
  iintro Hw
  iapply (wp_store 𝒱₀ (c : Thread nD τ) none Set.univ (m := wM) (r := workRect (chunkNo s)) (Mk := Finset.univ)
    (S := (wM.access (workRect (chunkNo s))).set) (Finset.Subset.refl _)) $$ Hw
  iintro Hw
  rw [← work_set]
  iapply (Rounds.wp_send_pointsTo 𝒱₀ ER (sched m ρ) (c : Thread nD τ) none (κ₁ := K (c, .inr (.inl s))) (κ₂ := K (peer s c, .inr (.inr s)))
    (src := workBlock wM (chunkNo s)) (c' := (peer s c : Thread nD τ)) (dst := commBlock rM s) (sS := .dma (sendSem s)) (sem := .dma (recvSem s))
    (r₁ := 0) (r₂ := 0) (d₁ := false) (d₂ := false) (fd := g)
    (fs := (wM.access (workRect (chunkNo s))).write (Elt F) f
      (shapeCast S1x2048x128 (sent m ρ c s) Facts₀.shapeCasts_S2048x128_S1x2048x128) Finset.univ)
    (by rw [duties_kcell m ρ (c, .inr (.inl s))]; exact Finset.mem_singleton_self _)
    (by rw [duties_kcell m ρ (peer s c, .inr (.inr s))]; exact Finset.mem_singleton_self _)
    () () N rfl (amount_kcell m ρ (c, .inr (.inl s)) 0 false) (amount_kcell m ρ (peer s c, .inr (.inr s)) 0 false)
    (owedFrom c (s.val + 1)) (owedFrom_step c s) (W := W)
    ((working_of (chunkNo s) c _).trans (Entails.of_eq (payload_kcell m ρ (c, .inr (.inl s)) 0 false).symm))
    ((arrived_of m ρ s c g _ (stored_block _ _ _)).trans (Entails.of_eq (payload_kcell m ρ (peer s c, .inr (.inr s)) 0 false).symm))) $$ [Hw Hl HO HtS HtV]
  · isplitr; · iapply (inv_at m ρ K (c, .inr (.inl s))); iexact HR
    isplitr; · iapply (inv_at m ρ K (peer s c, .inr (.inr s))); iexact HR
    isplitl [Hw]; · iexact Hw
    isplitl [Hl]; · iexact Hl
    isplitl [HO]; · iexact HO
    isplitl [HtS]; · iexact HtS
    isplitr; · iapply (reached_at m ρ K (c, .inr (.inl s))); iexact HR
    isplitl [HtV]; · iexact HtV
    iapply (reached_at m ρ K (peer s c, .inr (.inr s))); iexact HR
  iintro ⟨Hc, HO⟩
  rw [wp_ret]; imodintro
  iapply Hk
  isplitl [Hc]; · iexact Hc
  iexists W; iexact HO

/-! ## Taking -/

/-- Taking what a slot brought, the slots below `n` sent: the working block comes back, the slot is done with. -/
theorem take_rule (K : Dev nD × SemKind → ℕ) (c : Dev nD) (s : Fin 12) (k : Fin 4) (n : ℕ) (hk : k = chunkNo s) (hn : s.val < n)
    (Q : FVec F S2048x128 .bf16 → sProp 𝕄) :
    iprop(records m ρ K ∗ levAts L lv ∗ underway s c ∗ takeRes s c ∗ owing c (owedFrom c n))
      ⊢ iprop(((working k c ∗ closed s c ∗ owing c (owedFrom c n)) -∗ Q (sent m ρ (peer s c) s))
        -∗ run c (takeChunk wM (Memref.isWhole_whole _) rM (Memref.isWhole_whole _) cc0_scratch2 cc0_scratch3 k s) Q) := by
  subst hk
  unfold takeChunk run owing takeRes underway closed
  simp only [Prog.lift, Prog.bind_op, Prog.bind_ret, Prog.pure_eq_ret]
  iintro ⟨#HR, #Hlev, HcS, ⟨HaS, HaV, HcV⟩, %W, HO⟩ Hk
  iapply (Rounds.wp_wait_rest_token 𝒱₀ ER (sched m ρ) (c : Thread nD τ) none (κ := K (c, .inr (.inl s)))
      (wpE_waitDma2_eq 𝒱₀ (c : Thread nD τ) none Set.univ) (Set.mem_univ _) () (O := owedFrom c n) (W := W) (R := 0) (m := 0) (T := ∅)
      (by rw [Nat.zero_add, expect_own m ρ c (.inl s)])) $$ [HcS HO HaS]
  · isplitr; · iapply (inv_at m ρ K (c, .inr (.inl s))); iexact HR
    isplitl [HcS]; · iexact HcS
    isplitl [HO]; · iexact HO
    isplitr; · iapply (mayWait_kcell c (.inr (.inl s)) n (by show 0 < 2 + n; omega)); iexact Hlev
    iexact HaS
  iintro ⟨HO, HaS, -, Hpay⟩
  ihave Hw := (Entails.of_eq (rest_own m ρ c (.inl s))) $$ Hpay
  iapply (Rounds.wp_wait_rest_token 𝒱₀ ER (sched m ρ) (c : Thread nD τ) none (κ := K (c, .inr (.inr s)))
      (wpE_waitDma2_eq 𝒱₀ (c : Thread nD τ) none Set.univ) (Set.mem_univ _) () (O := owedFrom c n)
      (W := insert (SemLoc.dma (sendSem s), ()) W) (R := 0) (m := 0) (T := ∅)
      (by rw [Nat.zero_add, expect_own m ρ c (.inr s)])) $$ [HcV HO HaV]
  · isplitr; · iapply (inv_at m ρ K (c, .inr (.inr s))); iexact HR
    isplitl [HcV]; · iexact HcV
    isplitl [HO]; · iexact HO
    isplitr; · iapply (mayWait_kcell c (.inr (.inr s)) n (by show 2 + s.val < 2 + n; omega)); iexact Hlev
    iexact HaV
  iintro ⟨HO, HaV, -, Hpay⟩
  ihave Hr := (Entails.of_eq (rest_own m ρ c (.inr s))) $$ Hpay
  imod (Rounds.cell_close ER (sched m ρ) (Set.mem_univ (K (c, .inr (.inl s)))) (fun h => h) (R := 0 + 1) (duties_later m ρ (sendCell s c))) $$ [HaS] with HzS
  · isplitr; · iapply (inv_at m ρ K (c, .inr (.inl s))); iexact HR
    iexact HaS
  imod (Rounds.cell_close ER (sched m ρ) (Set.mem_univ (K (c, .inr (.inr s)))) (fun h => h) (R := 0 + 1) (duties_later m ρ (recvCell s c))) $$ [HaV] with HzV
  · isplitr; · iapply (inv_at m ρ K (c, .inr (.inr s))); iexact HR
    iexact HaV
  unfold payOf arrived owns
  icases Hr with ⟨%f, %hf, Hr⟩
  rw [comm_set]
  iapply (wp_load_rect 𝒱₀ (c : Thread nD τ) none Set.univ (m := rM) (r := commRect s) (Finset.Subset.refl _)) $$ Hr
  iintro Hr
  rw [← comm_set, wp_ret]; imodintro
  rw [show shapeCast S2048x128 ((rM.access (commRect s)).read (Elt F) f) Facts₀.shapeCasts_S1x2048x128_S2048x128
    = sent m ρ (peer s c) s from hf]
  iapply Hk
  isplitl [Hw]; · iexact Hw
  isplitl [HzS HzV Hr]
  · isplitl [HzS HzV]
    · isplitl [HzS] <;> iassumption
    unfold landing owns
    iexists _; iexists f; isplitr; · (ipureintro; rfl)
    iexact Hr
  iexists _; iexact HO

/-! ## Reading the argument and writing the result -/

/-- A device's buffer held whole at given contents. -/
abbrev stg (c : Dev nD) (b : Ref sig .tc) (X : b.ty.Contents (Elt F)) : sProp 𝕄 := ((c : Thread nD τ).loc b) ↦{fullShare} X

theorem read_rule (c : Dev nD) (h : Fin 2) (Q : FVec F S2048x256 .bf16 → sProp 𝕄) :
    stg c cc0_stg0_0 (xstg m ρ c)
      ⊢ iprop((stg c cc0_stg0_0 (xstg m ρ c) -∗ Q (halfIn m ρ c h)) -∗ run c (readHalf xM h) Q) := by
  unfold readHalf run halfIn
  simp only [Prog.lift, Prog.bind_op, Prog.bind_ret, Prog.pure_eq_ret]
  iintro Hx Hk
  iapply (wp_load_rect 𝒱₀ (c : Thread nD τ) none Set.univ (m := xM) (r := inRect h) (Finset.subset_univ _)) $$ Hx
  iintro Hx
  rw [wp_ret]; imodintro
  iapply Hk
  iexact Hx

/-- The result buffer after chunk `k` is written. -/
def withChunk (k : Fin 4) (f : (cc0_stg1_0 : Ref sig .tc).ty.Contents (Elt F)) (x : FVec F S2048x128 .bf16) :
    (cc0_stg1_0 : Ref sig .tc).ty.Contents (Elt F) :=
  (oM.access (outRect k)).write (Elt F) f (extf .f32 x Facts₀.bitsLt_bf16_f32) Finset.univ

theorem write_rule (c : Dev nD) (k : Fin 4) (f : (cc0_stg1_0 : Ref sig .tc).ty.Contents (Elt F)) (x : FVec F S2048x128 .bf16)
    (Q : PUnit → sProp 𝕄) :
    stg c cc0_stg1_0 f ⊢ iprop((stg c cc0_stg1_0 (withChunk k f x) -∗ Q ⟨⟩) -∗ run c (writeChunk oM k x) Q) := by
  unfold writeChunk run
  simp only [Prog.lift, Prog.bind_op, Prog.bind_ret]
  iintro Ho Hk
  iapply (wp_load_rect 𝒱₀ (c : Thread nD τ) none Set.univ (m := oM) (r := outRect k) (Finset.subset_univ _)) $$ Ho
  iintro Ho
  iapply (wp_store 𝒱₀ (c : Thread nD τ) none Set.univ (m := oM) (r := outRect k) (Mk := Finset.univ) (Finset.subset_univ _)) $$ Ho
  iintro Ho
  rw [wp_ret]; imodintro
  iapply Hk
  iexact Ho

end Cert.Net
end
-- ==== Proof.Execution.lean ====
/- A device's run of the body from its resources: the barrier, then the slots in the program's order. -/
module

public import proofs.«01_k».proof.Proof.Slots
public import Idealize.ShloMosaic.Lib.Pointwise.Index

@[expose] public section

noncomputable section

namespace Cert.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The device's block of the result: chunk by chunk, the sorted columns at the wider format. -/
def outAt (c : Dev nD) : (cc0_stg1_0 : Ref sig .tc).ty.Contents (Elt F) := fun i : S2048x512.Idx =>
  extf .f32 (lvl3 m ρ c ⟨(i 1).val / 128, by have : (i 1).val < 512 := (i 1).isLt; omega⟩) Facts₀.bitsLt_bf16_f32
    (ix2 (n0 := 2048) (n1 := 128) (i 0) ⟨(i 1).val % 128, Nat.mod_lt _ (by decide)⟩)

theorem withChunk_miss (k : Fin 4) (f : (cc0_stg1_0 : Ref sig .tc).ty.Contents (Elt F)) (x : FVec F S2048x128 .bf16)
    (i : S2048x512.Idx) (h : (i 1).val / 128 ≠ k.val) : withChunk k f x i = f i := by
  refine View.write_of_not_mem _ _ _ fun hm => h ?_
  obtain ⟨j, -, rfl⟩ := Finset.mem_map.mp hm
  have hj : (j 1).val < 128 := (j 1).isLt
  show (k.val * 128 + 1 * (j 1).val) / 128 = k.val
  omega

theorem withChunk_hit (k : Fin 4) (f : (cc0_stg1_0 : Ref sig .tc).ty.Contents (Elt F)) (x : FVec F S2048x128 .bf16)
    (i : S2048x512.Idx) (h : (i 1).val / 128 = k.val) :
    withChunk k f x i = extf .f32 x Facts₀.bitsLt_bf16_f32 (ix2 (n0 := 2048) (n1 := 128) (i 0) ⟨(i 1).val % 128, Nat.mod_lt _ (by decide)⟩) := by
  have e : i = (oM.access (outRect k)).emb (ix2 (n0 := 2048) (n1 := 128) (i 0) ⟨(i 1).val % 128, Nat.mod_lt _ (by decide)⟩) := by
    refine funext fun a => Fin.ext ?_
    match a with
    | ⟨0, _⟩ => show (i 0).val = 0 + 1 * (i 0).val; omega
    | ⟨1, _⟩ => show (i 1).val = k.val * 128 + 1 * ((i 1).val % 128); omega
  conv_lhs => rw [e]
  exact View.write_emb_of_mem (v := oM.access (outRect k)) f _ (Finset.mem_univ _)

/-- The four chunks written, whatever was there before. -/
theorem chunks_written (c : Dev nD) (f : (cc0_stg1_0 : Ref sig .tc).ty.Contents (Elt F)) :
    withChunk 3 (withChunk 2 (withChunk 1 (withChunk 0 f (lvl3 m ρ c 0)) (lvl3 m ρ c 1)) (lvl3 m ρ c 2)) (lvl3 m ρ c 3) = outAt m ρ c := by
  refine funext fun i : S2048x512.Idx => ?_
  have hi : (i 1).val < 512 := (i 1).isLt
  have key : ∀ (k : Fin 4) (g : (cc0_stg1_0 : Ref sig .tc).ty.Contents (Elt F)), (i 1).val / 128 = k.val →
      withChunk k g (lvl3 m ρ c k) i = outAt m ρ c i := fun k g hk => by
    rw [withChunk_hit k g _ i hk]; unfold outAt
    congr 2; exact Fin.ext hk.symm
  by_cases h3 : (i 1).val / 128 = 3
  · exact key 3 _ h3
  rw [withChunk_miss 3 _ _ i h3]
  by_cases h2 : (i 1).val / 128 = 2
  · exact key 2 _ h2
  rw [withChunk_miss 2 _ _ i h2]
  by_cases h1 : (i 1).val / 128 = 1
  · exact key 1 _ h1
  rw [withChunk_miss 1 _ _ i h1]
  exact key 0 _ (by show (i 1).val / 128 = 0; omega)

/-! ## What a device starts from and ends with -/

/-- What a device starts from: the records at some names, its place at its barrier, the tokens it signals with, what it
    pays and takes each slot with, its barrier's two units, and the order of the waits. -/
def start (c : Dev nD) : sProp 𝕄 :=
  iprop((∃ K, records m ρ K ∗ (atPos ER (gateCell c) 0 ∅ 0 ∗ dutyTok ER (gateCell (near c)) 0 false ∗ dutyTok ER (gateCell (far c)) 0 true)
      ∗ (bigSep Finset.univ fun s : Fin 12 => payRes s c) ∗ bigSep Finset.univ fun s : Fin 12 => takeRes s c)
    ∗ cred (tallyAt (gateCell c) () 2) ∗ levAts L lv)

def Φ₀ (c : Dev nD) : sProp 𝕄 :=
  iprop(start m ρ c ∗ (bigSep Finset.univ fun k : Fin 4 => working k c) ∗ bigSep Finset.univ fun s : Fin 12 => landing s c)
/-- Afterwards every slot is done with, the working blocks are its own and the barrier's counter is at zero. -/
def Φ₁ (c : Dev nD) : sProp 𝕄 :=
  iprop((bigSep Finset.univ fun s : Fin 12 => closed s c) ∗ (bigSep Finset.univ fun k : Fin 4 => working k c) ∗ semVal (gateCell c) 0)

theorem twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The receiving blocks parted by whom they are lent to. -/
theorem landing_parted (c : Dev nD) :
    (bigSep Finset.univ fun s : Fin 12 => landing (F := F) s c)
      = iprop((bigSep nearSlots fun s => landing s c) ∗ bigSep farSlots fun s => landing s c) := by
  rw [show (Finset.univ : Finset (Fin 12)) = nearSlots ∪ farSlots by decide, bigSep_union (by decide)]; rfl

/-! ## The barrier -/

/-- The handshake: a device lends its receiving blocks to its two peers and is lent theirs. -/
theorem gate_rule (K : Dev nD × SemKind → ℕ) (c : Dev nD) (Q : PUnit → sProp 𝕄) :
    iprop(records m ρ K ∗ levAts L lv ∗ (bigSep Finset.univ fun s : Fin 12 => landing s c)
        ∗ (atPos ER (gateCell c) 0 ∅ 0 ∗ dutyTok ER (gateCell (near c)) 0 false ∗ dutyTok ER (gateCell (far c)) 0 true)
        ∗ cred (tallyAt (gateCell c) () 2) ∗ owing c (O₀ c))
      ⊢ iprop((((bigSep Finset.univ fun s : Fin 12 => landing s (peer s c)) ∗ semVal (gateCell c) 0 ∗ owing c (owedFrom c 0)) -∗ Q ⟨⟩)
        -∗ run c (semSignalWord (near c) gate 1#32) fun _ => run c (semSignalWord (far c) gate 1#32) fun _ => run c (semWaitWord gate 2#32) Q) := by
  unfold run owing
  simp only [semSignalWord, semWaitWord, Prog.lift, Prog.bind_op, Prog.bind_ret]
  iintro ⟨#HR, #Hlev, Hl, ⟨HaB, HtN, HtF⟩, HcB, %W, HO⟩ Hk
  ihave Hl2 := (Entails.of_eq (landing_parted (F := F) c)) $$ Hl
  icases Hl2 with ⟨HlN, HlF⟩
  iapply (Rounds.wp_signal 𝒱₀ ER (sched m ρ) (c : Thread nD τ) none (dst := (near c : Thread nD τ)) (κ := K (near c, .inl ()))
      (d := false) (by rw [duties_kcell m ρ (near c, .inl ())]; exact Finset.mem_univ _)
      ((amount_kcell m ρ (near c, .inl ()) 0 false).trans (by rfl)) () (O₁ c) rfl) $$ [HO HtN HlN]
  · isplitr; · iapply (inv_at m ρ K (near c, .inl ())); iexact HR
    isplitl [HO]; · iexact HO
    isplitl [HtN]; · iexact HtN
    isplitl [HlN]
    · rw [payload_kcell m ρ (near c, .inl ())]; unfold payOf gatePay
      rw [if_neg Bool.false_ne_true, near_near]; iexact HlN
    iapply (reached_at m ρ K (near c, .inl ())); iexact HR
  iintro HO
  rw [wp_ret]; imodintro
  unfold O₁
  iapply (Rounds.wp_signal 𝒱₀ ER (sched m ρ) (c : Thread nD τ) none (dst := (far c : Thread nD τ)) (κ := K (far c, .inl ()))
      (d := true) (by rw [duties_kcell m ρ (far c, .inl ())]; exact Finset.mem_univ _)
      ((amount_kcell m ρ (far c, .inl ()) 0 true).trans (by rfl)) () (owedFrom c 0) rfl) $$ [HO HtF HlF]
  · isplitr; · iapply (inv_at m ρ K (far c, .inl ())); iexact HR
    isplitl [HO]; · iexact HO
    isplitl [HtF]; · iexact HtF
    isplitl [HlF]
    · rw [payload_kcell m ρ (far c, .inl ())]; unfold payOf gatePay
      rw [if_pos rfl, far_far]; iexact HlF
    iapply (reached_at m ρ K (far c, .inl ())); iexact HR
  iintro HO
  rw [wp_ret]; imodintro
  iapply (Rounds.wp_wait_rest_token 𝒱₀ ER (sched m ρ) (c : Thread nD τ) none (κ := K (c, .inl ()))
      (wpE_semWait_eq 𝒱₀ (c : Thread nD τ) none Set.univ) (Set.mem_univ _) () (O := owedFrom c 0) (W := W) (R := 0) (m := 0) (T := ∅)
      (by rw [expect_gate]; decide)) $$ [HcB HO HaB]
  · isplitr; · iapply (inv_at m ρ K (c, .inl ())); iexact HR
    isplitl [HcB]; · iexact HcB
    isplitl [HO]; · iexact HO
    isplitr; · iapply (mayWait_kcell c (.inl ()) 0 (by show 1 < 2 + 0; omega)); iexact Hlev
    iexact HaB
  iintro ⟨HO, HaB, -, Hpay⟩
  ihave Hp := (Entails.of_eq (rest_gate m ρ c)) $$ Hpay
  imod (Rounds.cell_close ER (sched m ρ) (Set.mem_univ (K (c, .inl ()))) (fun h => h) (R := 0 + 1) (duties_later m ρ (gateCell c))) $$ [HaB] with HzB
  · isplitr; · iapply (inv_at m ρ K (c, .inl ())); iexact HR
    iexact HaB
  rw [wp_ret]; imodintro
  iapply Hk
  isplitl [Hp]; · iexact Hp
  isplitl [HzB]; · iexact HzB
  iexists _; iexact HO

/-! ## The whole body -/

/-- `send_rule` and `take_rule` with their resources one by one. -/
theorem send_at (K : Dev nD × SemKind → ℕ) (c q : Dev nD) (s : Fin 12) (k : Fin 4) (n : ℕ) (x : FVec F S2048x128 .bf16)
    (hq : q = peer s c) (hk : k = chunkNo s) (hn : n = s.val) (hx : x = sent m ρ c s) (Q : PUnit → sProp 𝕄) :
    records m ρ K ⊢ iprop(working k c -∗ landing s (peer s c) -∗ owing c (owedFrom c n) -∗ payRes s c
      -∗ ((underway s c ∗ owing c (owedFrom c (n + 1))) -∗ Q ⟨⟩)
      -∗ run c (sendChunk wM (Memref.isWhole_whole _) rM (Memref.isWhole_whole _) cc0_scratch2 cc0_scratch3 k s q x) Q) := by
  iintro #HR Hw Hl HO Hp
  iapply (send_rule m ρ K c q s k n (n + 1) x hq hk hn (by rw [hn]) hx Q)
  isplitr; · iexact HR
  isplitl [Hw]; · iexact Hw
  isplitl [Hl]; · iexact Hl
  isplitl [HO] <;> iassumption

theorem take_at (K : Dev nD × SemKind → ℕ) (c : Dev nD) (s : Fin 12) (k : Fin 4) (n : ℕ) (hk : k = chunkNo s) (hn : s.val < n)
    (Q : FVec F S2048x128 .bf16 → sProp 𝕄) :
    records m ρ K ⊢ iprop(levAts L lv -∗ underway s c -∗ takeRes s c -∗ owing c (owedFrom c n)
      -∗ ((working k c ∗ closed s c ∗ owing c (owedFrom c n)) -∗ Q (sent m ρ (peer s c) s))
      -∗ run c (takeChunk wM (Memref.isWhole_whole _) rM (Memref.isWhole_whole _) cc0_scratch2 cc0_scratch3 k s) Q) := by
  iintro #HR #Hlev Hu Ht HO
  iapply (take_rule m ρ K c s k n hk hn Q)
  isplitr; · iexact HR
  isplitr; · iexact Hlev
  isplitl [Hu]; · iexact Hu
  isplitl [Ht] <;> iassumption

set_option maxHeartbeats 4000000 in
/-- The body from its resources to its end, one rule for each step in program order. -/
theorem body_rule (K : Dev nD × SemKind → ℕ) (c : Dev nD) (g : (cc0_stg1_0 : Ref sig .tc).ty.Contents (Elt F)) (Q : PUnit → sProp 𝕄) :
    iprop((records m ρ K ∗ levAts L lv)
        ∗ ((bigSep Finset.univ fun s : Fin 12 => landing s c)
          ∗ (atPos ER (gateCell c) 0 ∅ 0 ∗ dutyTok ER (gateCell (near c)) 0 false ∗ dutyTok ER (gateCell (far c)) 0 true)
          ∗ cred (tallyAt (gateCell c) () 2) ∗ owing c (O₀ c))
        ∗ (bigSep Finset.univ fun s : Fin 12 => payRes s c) ∗ (bigSep Finset.univ fun s : Fin 12 => takeRes s c)
        ∗ (bigSep Finset.univ fun k : Fin 4 => working k c)
        ∗ stg c cc0_stg0_0 (xstg m ρ c) ∗ stg c cc0_stg1_0 g)
      ⊢ iprop(((Φ₁ c ∗ owing c 0 ∗ stg c cc0_stg0_0 (xstg m ρ c) ∗ stg c cc0_stg1_0 (outAt m ρ c)) -∗ Q ⟨⟩)
        -∗ run c (body xM oM wM (Memref.isWhole_whole _) rM (Memref.isWhole_whole _) cc0_scratch2 cc0_scratch3) Q) := by
  unfold body
  simp only [wp_bind]
  rw [twelve (F := F) fun s => payRes s c, twelve (F := F) fun s => takeRes s c, four]
  iintro ⟨⟨#HR, #Hlev⟩, ⟨Hl, Hat, HcB, HO⟩, ⟨P0, P1, P2, P3, P4, P5, P6, P7, P8, P9, P10, P11⟩,
    ⟨T0, T1, T2, T3, T4, T5, T6, T7, T8, T9, T10, T11⟩, ⟨W0, W1, W2, W3⟩, Hx, Ho⟩ Hk
  simp only [Prog.lift, wp_deviceId, wp_ret]
  imodintro
  iapply (gate_rule m ρ K c) $$ [Hl Hat HcB HO]
  · isplitr; · iexact HR
    isplitr; · iexact Hlev
    isplitl [Hl]; · iexact Hl
    isplitl [Hat]; · iexact Hat
    isplitl [HcB] <;> iassumption
  iintro ⟨Hl, HzB, HO⟩
  ihave Hl := (Entails.of_eq (twelve (F := F) fun s => landing s (peer s c))) $$ Hl
  icases Hl with ⟨L0, L1, L2, L3, L4, L5, L6, L7, L8, L9, L10, L11⟩
  iapply (read_rule m ρ c 0) $$ Hx; iintro Hx
  iapply (send_at m ρ K c _ 0 0 0 _ rfl rfl rfl rfl) $$ HR W0 L0 HO P0; iintro ⟨U0, HO⟩
  iapply (send_at m ρ K c _ 1 1 1 _ rfl rfl rfl rfl) $$ HR W1 L1 HO P1; iintro ⟨U1, HO⟩
  iapply (read_rule m ρ c 1) $$ Hx; iintro Hx
  iapply (send_at m ρ K c _ 2 2 2 _ rfl rfl rfl rfl) $$ HR W2 L2 HO P2; iintro ⟨U2, HO⟩
  iapply (send_at m ρ K c _ 3 3 3 _ rfl rfl rfl rfl) $$ HR W3 L3 HO P3; iintro ⟨U3, HO⟩
  iapply (take_at m ρ K c 0 0 4 rfl (by decide)) $$ HR Hlev U0 T0 HO; iintro ⟨W0, Z0, HO⟩
  iapply (send_at m ρ K c _ 4 0 4 _ rfl rfl rfl rfl) $$ HR W0 L4 HO P4; iintro ⟨U4, HO⟩
  iapply (take_at m ρ K c 1 1 5 rfl (by decide)) $$ HR Hlev U1 T1 HO; iintro ⟨W1, Z1, HO⟩
  iapply (send_at m ρ K c _ 5 1 5 _ rfl rfl rfl rfl) $$ HR W1 L5 HO P5; iintro ⟨U5, HO⟩
  iapply (take_at m ρ K c 2 2 6 rfl (by decide)) $$ HR Hlev U2 T2 HO; iintro ⟨W2, Z2, HO⟩
  iapply (send_at m ρ K c _ 6 2 6 _ rfl rfl rfl rfl) $$ HR W2 L6 HO P6; iintro ⟨U6, HO⟩
  iapply (take_at m ρ K c 3 3 7 rfl (by decide)) $$ HR Hlev U3 T3 HO; iintro ⟨W3, Z3, HO⟩
  iapply (send_at m ρ K c _ 7 3 7 _ rfl rfl rfl rfl) $$ HR W3 L7 HO P7; iintro ⟨U7, HO⟩
  iapply (take_at m ρ K c 4 0 8 rfl (by decide)) $$ HR Hlev U4 T4 HO; iintro ⟨W0, Z4, HO⟩
  iapply (send_at m ρ K c _ 8 0 8 _ rfl rfl rfl rfl) $$ HR W0 L8 HO P8; iintro ⟨U8, HO⟩
  iapply (take_at m ρ K c 5 1 9 rfl (by decide)) $$ HR Hlev U5 T5 HO; iintro ⟨W1, Z5, HO⟩
  iapply (send_at m ρ K c _ 9 1 9 _ rfl rfl rfl rfl) $$ HR W1 L9 HO P9; iintro ⟨U9, HO⟩
  iapply (take_at m ρ K c 8 0 10 rfl (by decide)) $$ HR Hlev U8 T8 HO; iintro ⟨W0, Z8, HO⟩
  iapply (write_rule c 0) $$ Ho; iintro Ho
  iapply (take_at m ρ K c 6 2 10 rfl (by decide)) $$ HR Hlev U6 T6 HO; iintro ⟨W2, Z6, HO⟩
  iapply (send_at m ρ K c _ 10 2 10 _ rfl rfl rfl rfl) $$ HR W2 L10 HO P10; iintro ⟨U10, HO⟩
  iapply (take_at m ρ K c 9 1 11 rfl (by decide)) $$ HR Hlev U9 T9 HO; iintro ⟨W1, Z9, HO⟩
  iapply (write_rule c 1) $$ Ho; iintro Ho
  iapply (take_at m ρ K c 7 3 11 rfl (by decide)) $$ HR Hlev U7 T7 HO; iintro ⟨W3, Z7, HO⟩
  iapply (send_at m ρ K c _ 11 3 11 _ rfl rfl rfl rfl) $$ HR W3 L11 HO P11; iintro ⟨U11, HO⟩
  iapply (take_at m ρ K c 10 2 12 rfl (by decide)) $$ HR Hlev U10 T10 HO; iintro ⟨W2, Z10, HO⟩
  iapply (write_rule c 2) $$ Ho; iintro Ho
  iapply (take_at m ρ K c 11 3 12 rfl (by decide)) $$ HR Hlev U11 T11 HO; iintro ⟨W3, Z11, HO⟩
  iapply (write_rule c 3) $$ Ho; iintro Ho
  iapply Hk
  unfold Φ₁
  rw [twelve (F := F) fun s => closed s c, four, ← owedFrom_end c, ← chunks_written m ρ c g]
  isplitl [Z0 Z1 Z2 Z3 Z4 Z5 Z6 Z7 Z8 Z9 Z10 Z11 W0 W1 W2 W3 HzB]
  · isplitl [Z0 Z1 Z2 Z3 Z4 Z5 Z6 Z7 Z8 Z9 Z10 Z11]
    · iframe
    isplitl [W0 W1 W2 W3]
    · iframe
    iexact HzB
  isplitl [HO]; · iexact HO
  isplitl [Hx]; · iexact Hx
  iexact Ho

end Cert.Net
end
-- ==== Proof.Launch.lean ====
/- The launch of the four devices' bodies, and what every run of the program ends with, whatever the floats' values. -/
module

public import proofs.«01_k».proof.Proof.Execution
public import Idealize.ShloMosaic.Lib.Ring
public import Idealize.ShloMosaic.Lib.Pipeline.CollectiveSegs

@[expose] public section

noncomputable section

namespace Cert.Net

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- The launch's data: the argument's block in, the sorted block out, everything owed paid by the end. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

def t₀ : Fin cfg0.N := t0_0
theorem only_point (t : Fin cfg0.N) : t = t₀ := fin_N0 t

theorem two_windows (Φ : Fin cfg0.W → sProp 𝕄) : bigSep Finset.univ Φ = iprop(Φ (0 : Fin 2) ∗ Φ (1 : Fin 2)) := bigSep_W0 Φ
theorem fetched (t : Fin cfg0.N) : (cfg0.win (0 : Fin 2)).fetch t = true := by rw [only_point t]; rfl

theorem body_obligation (c : Dev nD) : BodyObligation (dats (F := F) m ρ 0 c) (defs₀ (F := F)) 𝒱₀ () Set.univ := fun t => by
  rw [only_point t, two_windows, two_windows]
  show iprop(Φ₀ m ρ c ∗ (dats m ρ 0 c).owesAt () t₀.castSucc
      ∗ (∃ d, owns (c : Thread nD τ) (Memref.whole cc0_stg0_0) fullShare ((dats m ρ 0 c).before (0 : Fin 2) t₀ d))
      ∗ (∃ d, owns (c : Thread nD τ) (Memref.whole cc0_stg1_0) fullShare ((dats m ρ 0 c).before (1 : Fin 2) t₀ d)))
    ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => iprop(Φ₁ c ∗ (dats m ρ 0 c).owesAt () t₀.succ
        ∗ owns (c : Thread nD τ) (Memref.whole cc0_stg0_0) fullShare (xstg m ρ c)
        ∗ owns (c : Thread nD τ) (Memref.whole cc0_stg1_0) fullShare (outAt m ρ c)))
  rw [cc0_body_eq]
  simp only [owns_whole]
  unfold Φ₀ start Dat.owesAt Pipeline.owesWithin
  rw [show (dats m ρ 0 c).owed t₀.castSucc = O₀ c from rfl, show (dats m ρ 0 c).owed t₀.succ = 0 from rfl]
  iintro ⟨⟨⟨⟨%K, HR, Hat, HP, HT⟩, HcB, Hlev⟩, HW, HL⟩, ⟨%W, %hW, HO⟩, ⟨%d0, Hx⟩, ⟨%d1, Ho⟩⟩
  have hx : (dats m ρ 0 c).before (0 : Fin 2) t₀ d0 = xstg m ρ c := by
    unfold Dat.before; rw [if_pos (fetched t₀)]; rfl
  rw [hx]
  iapply (body_rule m ρ K c _) $$ [HR Hat HP HT HcB Hlev HW HL HO Hx Ho]
  · isplitl [HR Hlev]
    · isplitl [HR] <;> iassumption
    isplitl [HL Hat HcB HO]
    · isplitl [HL]; · iexact HL
      isplitl [Hat]; · iexact Hat
      isplitl [HcB]; · iexact HcB
      unfold owing; iexists W; iexact HO
    isplitl [HP]; · iexact HP
    isplitl [HT]; · iexact HT
    isplitl [HW]; · iexact HW
    isplitl [Hx]; · iexact Hx
    iexact Ho
  unfold owing
  iintro ⟨HΦ, ⟨%W', HO⟩, Hx, Ho⟩
  isplitl [HΦ]; · iexact HΦ
  isplitl [HO]
  · iexists W'
    isplitr; · ipureintro; exact fun _ _ => Or.inl trivial
    iexact HO
  isplitl [Hx] <;> iassumption

/-! ## The launch's ghost state -/

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- A device's own cells' duties: the barrier's two, one for each transfer. -/
abbrev TokKind : Type := Bool ⊕ (Fin 12 ⊕ Fin 12)
abbrev tokOf (cj : Dev nD × TokKind) : GSem nD τ sig × ℕ × Bool := match cj.2 with
  | .inl d => (gateCell cj.1, 0, d)
  | .inr k => (kcell (cj.1, .inr k), 0, false)
theorem tokOf_injective : Function.Injective tokOf := by
  rintro ⟨c, j⟩ ⟨c', j'⟩ h
  rcases j with d | k <;> rcases j' with d' | k' <;> dsimp only [tokOf] at h <;> rw [Prod.mk.injEq, Prod.mk.injEq] at h <;>
    have hk := kcell_injective (a₁ := (c, _)) (a₂ := (c', _)) (Prod.ext h.1.1 h.1.2) <;> rw [Prod.mk.injEq] at hk
  · rw [hk.1, (Prod.mk.inj h.2).2]
  · exact absurd hk.2 (by simp)
  · exact absurd hk.2 (by simp)
  · rw [hk.1, Sum.inr.inj hk.2]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The tokens of a device's own cells. -/
def toks (c : Dev nD) : sProp 𝕄 :=
  iprop((dutyTok ER (gateCell c) 0 false ∗ dutyTok ER (gateCell c) 0 true)
    ∗ (bigSep Finset.univ fun s : Fin 12 => dutyTok ER (sendCell s c) 0 false)
    ∗ bigSep Finset.univ fun s : Fin 12 => dutyTok ER (recvCell s c) 0 false)
/-- The tokens a device pays with. -/
def payToks (c : Dev nD) : sProp 𝕄 :=
  iprop((dutyTok ER (gateCell (near c)) 0 false ∗ dutyTok ER (gateCell (far c)) 0 true)
    ∗ bigSep Finset.univ fun s : Fin 12 => payRes s c)

theorem over_kinds (Φ : SemKind → sProp 𝕄) : bigSep Finset.univ Φ
    = iprop(Φ (.inl ()) ∗ (bigSep Finset.univ fun s : Fin 12 => Φ (.inr (.inl s))) ∗ bigSep Finset.univ fun s : Fin 12 => Φ (.inr (.inr s))) := by
  rw [bigSep_univ_sum, bigSep_univ_sum, bigSep_univ_of_subsingleton ()]; rfl

theorem over_toks (Φ : TokKind → sProp 𝕄) : bigSep Finset.univ Φ
    = iprop((Φ (.inl false) ∗ Φ (.inl true)) ∗ (bigSep Finset.univ fun s : Fin 12 => Φ (.inr (.inl s))) ∗ bigSep Finset.univ fun s : Fin 12 => Φ (.inr (.inr s))) := by
  rw [bigSep_univ_sum, bigSep_univ_sum,
    bigSep_univ_eq_bigSepL [false, true] (by decide) (by decide) (fun d => Φ (.inl d)), bigSepL_cons_cons, bigSepL_singleton]; rfl

/-- A device's places at its cells. -/
def places (c : Dev nD) : sProp 𝕄 := bigSep Finset.univ fun k : SemKind => atPos ER (kcell (c, k)) 0 ∅ 0

/-- What the launch deals a device; -/
def G (c : Dev nD) : sProp 𝕄 :=
  iprop((bigSep Finset.univ fun k : SemKind => roundState ER (sched m ρ) (kcell (c, k)) 0)
    ∗ (places c ∗ bigSep Finset.univ fun k : SemKind => reached ER (kcell (c, k)) 0) ∗ toks c)
/-- what the devices together make of it. -/
def G' (c : Dev nD) : sProp 𝕄 := iprop(∃ K, records m ρ K ∗ places c ∗ payToks c)

theorem fund : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : SemKind => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [over_toks]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat'] <;> iassumption
  iexact Htok'

/-- The kernel's own semaphores are the twenty-four of its transfers; -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 12 => semVal (sendCell s c) 0) ∗ bigSep Finset.univ fun s : Fin 12 => semVal (recvCell s c) 0) := by
  unfold Pipeline.ownSems0; rw [bigSep_univ_sum]; rfl
/-- the barrier's is the one besides. -/
theorem unscopedSems0_eq (c : Dev nD) : (unscopedSems0 c : sProp 𝕄) = semVal (gateCell c) 0 := by
  unfold unscopedSems0; rw [bigSep_eq_bigSepL_of_eq [SemLoc.reg gate] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : SemKind => semVal (kcell (c, k)) 0 : sProp 𝕄) := by
  rw [ownSems0_eq, unscopedSems0_eq, over_kinds]
  iintro ⟨HSV, HB⟩
  isplitl [HB] <;> iassumption

/-- Each device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (places c ∗ bigSep Finset.univ fun k : SemKind => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : SemKind => semVal (kcell (c, k)) 0) ∗ bigSep Finset.univ fun k : SemKind => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to those who pay with them. -/
theorem toks_dealt : (bigSep Finset.univ fun c : Dev nD => (toks c : sProp 𝕄)) ⊢ bigSep Finset.univ fun c : Dev nD => payToks c := by
  have hV : (bigSep Finset.univ fun c : Dev nD => bigSep Finset.univ fun s : Fin 12 => (dutyTok ER (recvCell s c) 0 false : sProp 𝕄))
      = bigSep Finset.univ fun c : Dev nD => bigSep Finset.univ fun s : Fin 12 => dutyTok ER (recvCell s (peer s c)) 0 false := by
    rw [bigSep_univ_comm, bigSep_univ_comm (fun (c : Dev nD) (s : Fin 12) => (dutyTok ER (recvCell s (peer s c)) 0 false : sProp 𝕄))]
    exact bigSep_congr fun s _ => bigSep_univ_equiv (peerSwap s) (fun c : Dev nD => (dutyTok ER (recvCell s c) 0 false : sProp 𝕄))
  unfold toks payToks payRes
  simp only [bigSep_sep']
  rw [hV, bigSep_univ_equiv nearSwap (fun c : Dev nD => (dutyTok ER (gateCell c) 0 false : sProp 𝕄)),
    bigSep_univ_equiv farSwap (fun c : Dev nD => (dutyTok ER (gateCell c) 0 true : sProp 𝕄))]
  exact .refl

/-- What is everyone's is each one's. -/
theorem shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (places c ∗ bigSep Finset.univ fun k : SemKind => reached ER (kcell (c, k)) 0) ∗ toks c) : sProp 𝕄)
      ⊢ bigSep Finset.univ (G' m ρ) := by
  rw [bigSep_sep', bigSep_sep', bigSep_sep', ← bigSep_univ_prod (fun ck : Dev nD × SemKind => iprop(∃ κ : ℕ, cellInv ER (sched m ρ) κ (kcell ck))),
    ← bigSep_univ_prod (fun ck : Dev nD × SemKind => (reached ER (kcell ck) 0 : sProp 𝕄))]
  iintro ⟨HI, ⟨Hat, #HR⟩, Htok⟩
  ihave HK := (BI.bigSep_exists_pi Finset.univ (fun (ck : Dev nD × SemKind) (κ : ℕ) => (cellInv ER (sched m ρ) κ (kcell ck) : sProp 𝕄))) $$ HI
  icases HK with ⟨%K, #HI⟩
  ihave Htk := (toks_dealt (F := F)) $$ Htok
  iapply (shared (R := records m ρ K) (Φ := fun c => iprop(places c ∗ payToks c)) fun c _ => by
    unfold G'
    iintro ⟨HR, Hl⟩
    iexists K
    isplitl [HR] <;> iassumption)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

theorem gate_ne_recv (s : Fin 12) (c d : Dev nD) : gateCell c ≠ recvCell s d := fun h => by
  have := kcell_injective h; simp at this

theorem owedFrom_gate (d c : Dev nD) (n : ℕ) : owedFrom d n (gateCell c) () = 0 :=
  Nat.eq_zero_of_not_pos fun h => by
    obtain ⟨s, -, hs⟩ := owedFrom_pos h
    exact gate_ne_recv s c _ hs

theorem tally_kcell (c d : Dev nD) (k j : SemKind) (n : ℕ) :
    (tallyAt (kcell (c, k)) () n : CellTallies nD τ sig Unit) (kcell (d, j)) () = if c = d ∧ k = j then n else 0 := by
  rw [tallyAt_apply]
  by_cases h : c = d ∧ k = j
  · rw [if_pos h, if_pos ⟨by rw [h.1, h.2], rfl⟩]
  · rw [if_neg h, if_neg fun h' => h (by have := kcell_injective h'.1; simpa [eq_comm] using this)]

theorem owed_gate (d c : Dev nD) : O₀ d (gateCell c) () = (if d = far c then 1 else 0) + (if d = near c then 1 else 0) := by
  unfold O₀ O₁
  rw [Pi.add_apply, Finsupp.add_apply, Pi.add_apply, Finsupp.add_apply, owedFrom_gate, Nat.zero_add, tally_kcell, tally_kcell]
  revert c d; decide

theorem owed_recv (d c : Dev nD) (s : Fin 12) : O₀ d (recvCell s c) () = if d = peer s c then N else 0 := by
  have h (t : Fin 12) : (tallyAt (recvCell t (peer t d)) () N : CellTallies nD τ sig Unit) (recvCell s c) () = if t = s then (if d = peer s c then N else 0) else 0 := by
    rw [tally_kcell]
    by_cases ht : t = s
    · rw [if_pos ht, ht]
      by_cases hd : d = peer s c
      · rw [if_pos hd, if_pos ⟨by rw [hd, peer_peer], rfl⟩]
      · rw [if_neg hd, if_neg fun h' => hd (by rw [← h'.1, peer_peer])]
    · rw [if_neg ht, if_neg fun h' => ht (by simpa using h'.2)]
  unfold O₀ O₁
  rw [Pi.add_apply, Finsupp.add_apply, Pi.add_apply, Finsupp.add_apply, tally_kcell, tally_kcell,
    if_neg (fun h => by simp at h), if_neg (fun h => by simp at h), Nat.add_zero,
    owedFrom_apply, Finset.sum_congr rfl fun t _ => h t, Finset.sum_ite_eq' _ s, if_pos (Finset.mem_filter.mpr ⟨Finset.mem_univ s, Nat.zero_le s.val⟩)]

theorem launch_gate (c : Dev nD) :
    tallyOn (gateCell c) (launchCredit (Pipeline.owing O₀) 0 (gateCell c)) = (tallyAt (gateCell c) () 2 : CellTallies nD τ sig Unit) := by
  unfold tallyAt; refine congrArg _ (Finsupp.ext fun u => ?_); cases u
  rw [Pipeline.launchCredit_owing, Finsupp.single_eq_same, Finset.sum_congr rfl fun d _ => owed_gate d c, Finset.sum_add_distrib,
    Finset.sum_ite_eq' Finset.univ (far c) fun _ => 1, Finset.sum_ite_eq' Finset.univ (near c) fun _ => 1, if_pos (Finset.mem_univ _), if_pos (Finset.mem_univ _)]

theorem launch_recv (s : Fin 12) (c : Dev nD) :
    tallyOn (recvCell s c) (launchCredit (Pipeline.owing O₀) 0 (recvCell s c)) = (tallyAt (recvCell s c) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (peer s c) fun _ => N,
    if_pos (Finset.mem_univ _)]

/-- The launch's credit of a device's semaphores holds that of its barrier and of its incoming cells. -/
theorem creds (c : Dev nD) :
    (Pipeline.launchCred O₀ c : sProp 𝕄)
      ⊢ iprop(cred (tallyAt (gateCell c) () 2) ∗ bigSep Finset.univ fun s : Fin 12 => cred (tallyAt (recvCell s c) () N)) := by
  have e : (bigSep Finset.univ fun s : Fin 12 => (cred (tallyAt (recvCell s c) () N) : sProp 𝕄))
      = bigSep (Finset.univ.map ⟨fun s : Fin 12 => csem (.inr (.inr s)), fun s t h => by simpa using csem_injective h⟩)
          fun sm => cred (tallyOn ((c : Thread nD τ), sm) (launchCredit (Pipeline.owing O₀) 0 ((c : Thread nD τ), sm))) := by
    rw [bigSep_map]; exact bigSep_congr fun s _ => by rw [← launch_recv]; rfl
  unfold Pipeline.launchCred
  rw [bigSep_univ_at _ (SemLoc.reg gate), launch_gate, e]
  refine sep_mono_right ?_
  refine bigSep_subset fun sm hsm => Finset.mem_erase.mpr ⟨?_, Finset.mem_univ _⟩
  obtain ⟨s, -, rfl⟩ := Finset.mem_map.mp hsm
  exact fun h => by cases h

/-! ## The buffers the transfers use, in blocks -/

theorem work_mem (k : Fin 4) (i : S4x2048x128.Idx) : i ∈ (workBlock wM k).view.set ↔ (i 0).val = k.val := by
  rw [work_set]
  show i ∈ ((View.whole cc0_scratch0).slice (workRect k)).set ↔ _
  rw [View.set_slice_whole, Rect.mem_set_unit]
  refine ⟨fun h => ?_, fun h a => ?_⟩
  · have h0 : k.val ≤ (i 0).val ∧ (i 0).val < k.val + 1 := h 0
    omega
  · match a with
    | ⟨0, _⟩ => exact ⟨h.ge, Nat.lt_succ_of_le h.le⟩
    | ⟨1, _⟩ => exact ⟨Nat.zero_le _, lt_of_lt_of_eq (i 1).isLt (Nat.zero_add 2048).symm⟩
    | ⟨2, _⟩ => exact ⟨Nat.zero_le _, lt_of_lt_of_eq (i 2).isLt (Nat.zero_add 128).symm⟩

theorem comm_mem (s : Fin 12) (i : S12x2048x128.Idx) : i ∈ (commBlock rM s).view.set ↔ (i 0).val = s.val := by
  rw [comm_set]
  show i ∈ ((View.whole cc0_scratch1).slice (commRect s)).set ↔ _
  rw [View.set_slice_whole, Rect.mem_set_unit]
  refine ⟨fun h => ?_, fun h a => ?_⟩
  · have h0 : s.val ≤ (i 0).val ∧ (i 0).val < s.val + 1 := h 0
    omega
  · match a with
    | ⟨0, _⟩ => exact ⟨h.ge, Nat.lt_succ_of_le h.le⟩
    | ⟨1, _⟩ => exact ⟨Nat.zero_le _, lt_of_lt_of_eq (i 1).isLt (Nat.zero_add 2048).symm⟩
    | ⟨2, _⟩ => exact ⟨Nat.zero_le _, lt_of_lt_of_eq (i 2).isLt (Nat.zero_add 128).symm⟩

theorem work_apart (k k' : Fin 4) (h : k ≠ k') : Disjoint (workBlock wM k).view.set (workBlock wM k').view.set :=
  Finset.disjoint_left.mpr fun i hi hi' => h (Fin.ext (((work_mem k i).mp hi).symm.trans ((work_mem k' i).mp hi')))
theorem comm_apart (s s' : Fin 12) (h : s ≠ s') : Disjoint (commBlock rM s).view.set (commBlock rM s').view.set :=
  Finset.disjoint_left.mpr fun i hi hi' => h (Fin.ext (((comm_mem s i).mp hi).symm.trans ((comm_mem s' i).mp hi')))
theorem work_cover : (Finset.univ : Finset (Fin 4)).biUnion (fun k => (show Finset S4x2048x128.Idx from (workBlock wM k).view.set)) = Finset.univ :=
  Finset.eq_univ_iff_forall.mpr fun (i : S4x2048x128.Idx) => Finset.mem_biUnion.mpr ⟨i 0, Finset.mem_univ _, (work_mem (i 0) i).mpr rfl⟩
theorem comm_cover : (Finset.univ : Finset (Fin 12)).biUnion (fun s => (show Finset S12x2048x128.Idx from (commBlock rM s).view.set)) = Finset.univ :=
  Finset.eq_univ_iff_forall.mpr fun (i : S12x2048x128.Idx) => Finset.mem_biUnion.mpr ⟨i 0, Finset.mem_univ _, (comm_mem (i 0) i).mpr rfl⟩

theorem work_split (c : Dev nD) (f : (cc0_scratch0 : Ref sig .tc).ty.Contents (Elt F)) :
    stg c cc0_scratch0 f ⊢ (bigSep Finset.univ fun k : Fin 4 => working k c : sProp 𝕄) :=
  (Entails.of_eq (Ring.pointsTo_blocks (ℓ := (c : Thread nD τ).loc cc0_scratch0) (fun k : Fin 4 => (workBlock wM k).view.set) work_apart work_cover f)).trans
    (bigSep_mono fun k _ => working_of k c f)

theorem landing_of (s : Fin 12) (c : Dev nD) (f : Buf (Elt F) ((commBlock rM s).view.loc (c : Thread nD τ))) :
    ((commBlock rM s).view.loc (c : Thread nD τ) ↦[(commBlock rM s).view.set]{fullShare} f) ⊢ (landing s c : sProp 𝕄) := by
  unfold landing
  iintro H; iexists _
  iapply (owns_intro (c : Thread nD τ) (commBlock rM s) fullShare f); iexact H

theorem comm_split (c : Dev nD) (f : (cc0_scratch1 : Ref sig .tc).ty.Contents (Elt F)) :
    stg c cc0_scratch1 f ⊢ (bigSep Finset.univ fun s : Fin 12 => landing s c : sProp 𝕄) :=
  (Entails.of_eq (Ring.pointsTo_blocks (ℓ := (c : Thread nD τ).loc cc0_scratch1) (fun s : Fin 12 => (commBlock rM s).view.set) comm_apart comm_cover f)).trans
    (bigSep_mono fun s _ => landing_of s c f)

theorem of_working (k : Fin 4) (c : Dev nD) :
    (working k c : sProp 𝕄) ⊢ iprop(∃ f : Buf (Elt F) ((c : Thread nD τ).loc cc0_scratch0), (c : Thread nD τ).loc cc0_scratch0 ↦[(workBlock wM k).view.set]{fullShare} f) := by
  unfold working owns
  iintro ⟨%X, %f, -, H⟩; iexists f; iexact H

theorem of_landing (s : Fin 12) (c : Dev nD) :
    (landing s c : sProp 𝕄) ⊢ iprop(∃ f : Buf (Elt F) ((c : Thread nD τ).loc cc0_scratch1), (c : Thread nD τ).loc cc0_scratch1 ↦[(commBlock rM s).view.set]{fullShare} f) := by
  unfold landing owns
  iintro ⟨%X, %f, -, H⟩; iexists f; iexact H

theorem work_join (c : Dev nD) (f₀ : Buf (Elt F) ((c : Thread nD τ).loc cc0_scratch0)) :
    (bigSep Finset.univ fun k : Fin 4 => working k c : sProp 𝕄) ⊢ iprop(∃ f, stg c cc0_scratch0 f) :=
  (bigSep_mono fun k _ => of_working k c).trans
    (Ring.pointsTo_blocks_join_exists (ℓ := (c : Thread nD τ).loc cc0_scratch0) (fun k : Fin 4 => (workBlock wM k).view.set) work_apart work_cover f₀)

theorem comm_join (c : Dev nD) (f₀ : Buf (Elt F) ((c : Thread nD τ).loc cc0_scratch1)) :
    (bigSep Finset.univ fun s : Fin 12 => landing s c : sProp 𝕄) ⊢ iprop(∃ f, stg c cc0_scratch1 f) :=
  (bigSep_mono fun s _ => of_landing s c).trans
    (Ring.pointsTo_blocks_join_exists (ℓ := (c : Thread nD τ).loc cc0_scratch1) (fun s : Fin 12 => (commBlock rM s).view.set) comm_apart comm_cover f₀)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  unfold G' places payToks
  icases HG with ⟨%K, HR, Hat, Htok, HP⟩
  ihave Hat := (Entails.of_eq (over_kinds fun k : SemKind => (atPos ER (kcell (c, k)) 0 ∅ 0 : sProp 𝕄))) $$ Hat
  icases Hat with ⟨Hg, Hs, Hr⟩
  imodintro
  isplitl
  · unfold start takeRes
    simp only [bigSep_sep']
    isplitl [HR Hg Htok HP Hs Hr HN]
    · iexists K
      isplitl [HR]; · iexact HR
      isplitl [Hg Htok]
      · isplitl [Hg]; · iexact Hg
        iexact Htok
      isplitl [HP]; · iexact HP
      isplitl [Hs]; · iexact Hs
      isplitl [Hr]; · iexact Hr
      iexact HN
    isplitl [H1]; · iexact H1
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hw⟩, ⟨%g, Hr⟩⟩
  isplitl [Hs]; · iexact Hs
  isplitl [Hw]
  · iapply (work_split c f); iexact Hw
  · iapply (comm_split c g); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ closed
  simp only [bigSep_sep']
  iintro ⟨⟨⟨HzS, HzV⟩, HL⟩, HW, HzB⟩
  isplitl [HzB]; · iexact HzB
  isplitl [HzS HzV]
  · isplitl [HzS] <;> iassumption
  isplitl [HW]
  · iapply (work_join c (m ((c : Thread nD τ).loc cc0_scratch0))); iexact HW
  · iapply (comm_join c (m ((c : Thread nD τ).loc cc0_scratch1))); iexact HL

theorem kindOf_none (sm : SemLoc sig) (h : ∀ k, csem k ≠ sm) : kindOf sm = none := by
  unfold kindOf Function.partialInv
  rw [dif_neg (by rintro ⟨k, hk⟩; exact h k hk)]

theorem waits (c : Dev nD) : (levAts L lv : sProp 𝕄) ⊢ Pipeline.cellsWaits cfgs (dats m ρ) () 0 c :=
  Pipeline.cellsWaits_intro cfgs (dats m ρ) () 0 c fun w s t => by
    refine mayWait_of c _ _ 0 (by rw [kindOf_none _ (by fin_cases w <;> fin_cases s <;> decide)]; rfl) ?_
    rcases t with ⟨_ | _, ht⟩
    · exact fun g u h => O₀_pos h
    · exact fun g u h => absurd h (Nat.lt_irrefl 0)

/-! ## The run -/

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero every fair execution of the program ends, each device's arrays at their final contents and every counter back at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's block ends as it began. -/
theorem final_arg (c : Dev nD) : finalA m ρ c (0 : Fin 2) = (s₀ m ρ).mem (win0_0.arr.view.loc (c : Thread nD τ)) :=
  (dats (F := F) m ρ 0 c).arrAt_in (0 : Fin 2) rfl _

end Cert.Net
end
-- ==== Proof.SameText.lean ====
/- The program read at the floats' bits and the program read over the extended reals have the same text: their tables of bodies agree. -/
module

public import proofs.«01_k».proof.Defs
public import proofs.«01_k».proof.Proof.Gen.Kernel
public import proofs.«01_k».proof.Proof.Gen.KernelIdeal

@[expose] public section

noncomputable section

namespace Cert.SameText

open Idealize.ShloMosaic

variable (F : FTy → Type) [FloatOps F]

theorem body_same : @Cert.Kernel.cc0_body F _ Cert.Kernel.Gen.facts = @Cert.KernelIdeal.cc0_body F _ Cert.KernelIdeal.Gen.facts := rfl

theorem bodies_same : Cert.Kernel.defs₀ (F := F) = Cert.KernelIdeal.defs₀ := by
  funext p
  cases p
  · funext ⟨ℓ, hℓ⟩ a
    match ℓ with
    | 0 => rfl
    | n + 1 => exact absurd hℓ (by simp)
  · rfl
  · rfl

theorem defs_same : Cert.Kernel.defs (F := F) = Cert.KernelIdeal.defs (F := F) := by
  unfold Cert.Kernel.defs Cert.KernelIdeal.defs
  exact congrArg (Pipeline.defs (Cert.KernelIdeal.pcfgs (F := F))) (bodies_same F)

end Cert.SameText

end
-- ==== Proof.Bits.lean ====
/- The bits a stage of the kernel reads: a bit of the row number, a bit of the group number, and the bits of the device's
   number. -/
module

public import proofs.«01_k».proof.Proof.Body
public import Idealize.ShloMosaic.Lib.SortNet.Sorts
public import Idealize.ShloMosaic.Lib.SortNet.Printed
public import Idealize.ShloMosaic.Lib.Pointwise.Tactic

@[expose] public section

namespace Cert.Net

open Idealize.ShloMosaic

/-- The kernel's test for an odd number reads bit 0 of a number that is not negative. -/
theorem odd_apply {s : Shape} (x : IVec s 32) (i : s.Idx) (h : (x i).toNat < 2 ^ 31) :
    odd x i = BitVec.ofBool ((x i).toNat.testBit 0) := by
  have hr : IntOp.remsi .vector (x i) 2#32 = BitVec.ofNat 32 ((x i).toNat % 2) := by
    have hm : (x i).msb = false := BitVec.msb_eq_false_iff_two_mul_lt.mpr (by omega)
    have hc : ¬ IntOp.SDivCorner (x i) 2#32 := by
      rintro (hc | hc)
      · exact absurd hc (by decide)
      · exact absurd hc.2 (by decide)
    unfold IntOp.remsi
    rw [if_neg hc, BitVec.srem_eq, hm, show (2#32 : BitVec 32).msb = false from by decide]
    apply BitVec.eq_of_toNat_eq
    simp
    omega
  show IntOp.cmpi .eq (Scalar.select (IntOp.andi (IntOp.xori (IntOp.cmpi .slt (IntOp.remsi .vector (x i) 2#32) 0#32) 0#1)
    (IntOp.cmpi .ne (IntOp.remsi .vector (x i) 2#32) 0#32)) (IntOp.addi (IntOp.remsi .vector (x i) 2#32) 2#32)
      (IntOp.remsi .vector (x i) 2#32)) 1#32 = _
  rw [hr, Nat.testBit_zero]
  rcases Nat.mod_two_eq_zero_or_one (x i).toNat with h0 | h0 <;> rw [h0] <;> decide

/-- A number of at most 31 bits, shifted right. -/
theorem shrsi_toNat (n : Nat) (k : BitVec 32) (hn : n < 2 ^ 31) (hk : k.toNat < 32) :
    (IntOp.shrsi .vector (BitVec.ofNat 32 n) k).toNat = n >>> k.toNat := by
  have hm : (BitVec.ofNat 32 n).msb = false := BitVec.msb_eq_false_iff_two_mul_lt.mpr (by
    rw [BitVec.toNat_ofNat, Nat.mod_eq_of_lt (by omega)]; omega)
  unfold IntOp.shrsi
  rw [if_pos hk, BitVec.sshiftRight', BitVec.sshiftRight_eq_of_msb_false hm, BitVec.toNat_ushiftRight, BitVec.toNat_ofNat,
    Nat.mod_eq_of_lt (by omega)]

/-- Bit `k` of a number, as the kernel reads it. -/
theorem odd_shrsi (n : Nat) (k : BitVec 32) (hn : n < 2 ^ 31) (hk : k.toNat < 32) {s : Shape} (x : IVec s 32) (i : s.Idx)
    (hx : x i = IntOp.shrsi .vector (BitVec.ofNat 32 n) k) : odd x i = BitVec.ofBool (n.testBit k.toNat) := by
  have ht := shrsi_toNat n k hn hk
  rw [odd_apply x i (by rw [hx, ht, Nat.shiftRight_eq_div_pow]; exact lt_of_le_of_lt (Nat.div_le_self _ _) hn), hx, ht,
    Nat.testBit_shiftRight, Nat.add_zero]

/-- `rowBit n k` is bit `k` of the row number, -/
theorem rowBit_apply (n : Nat) (k : BitVec 32) (hn : n ≤ 2048) (hk : k.toNat < 32) (i : (rows n 1).Idx) :
    rowBit n k i = BitVec.ofBool ((i 0).val.testBit k.toNat) := by
  have hi : (i 0).val < n := (i 0).isLt
  refine odd_shrsi (i 0).val k (by omega) hk _ i ?_
  show IntOp.shrsi .vector (iota .tc (rows n 1) 32 [0] iotas_rows i) k = _
  congr 1
  show BitVec.ofNat 32 (0 * _ + (i 0).val) = _
  rw [Nat.zero_mul, Nat.zero_add]

/-- and `groupBit n k` bit `k` of the group number. -/
theorem groupBit_apply (n : Nat) (k : BitVec 32) (hn : n ≤ 2048) (hk : k.toNat < 32) (i : (cube n 1 1).Idx) :
    groupBit n k i = BitVec.ofBool ((i 0).val.testBit k.toNat) := by
  have hi : (i 0).val < n := (i 0).isLt
  refine odd_shrsi (i 0).val k (by omega) hk _ i ?_
  show IntOp.shrsi .vector (iota .tc (cube n 1 1) 32 [0] iotas_cube i) k = _
  congr 1
  show BitVec.ofNat 32 (0 * _ + (i 0).val) = _
  rw [Nat.zero_mul, Nat.zero_add]

end Cert.Net
end
-- ==== Proof.Rows.lean ====
/- What one stage of the kernel's network leaves in each row, over the extended reals: the greater or the lesser of the row's
   entry and its partner's. -/
module

public import proofs.«01_k».proof.Proof.Bits
public import Idealize.ShloMosaic.Lib.Pipeline.Value
public import Idealize.ShloMosaic.Lib.Pointwise.Reshape

@[expose] public section

noncomputable section

namespace Cert.Net

open Idealize.ShloMosaic Idealize.ShloMosaic.SortNet

/-- The row `2 ^ s` away from row `i`: the row whose number differs in bit `s`. -/
def flip (s : ℕ) (i : Fin 2048) : Fin 2048 := partner 11 s i

theorem flip_clear {s : ℕ} (hs : s < 11) (i : Fin 2048) (h : i.val.testBit s = false) : (flip s i).val = i.val + 2 ^ s :=
  partner_val_of_clear (p := 11) hs i ((and_two_pow_eq_zero_iff_testBit _ _).mpr h)

theorem flip_set {s : ℕ} (hs : s < 11) (i : Fin 2048) (h : i.val.testBit s = true) : (flip s i).val = i.val - 2 ^ s :=
  (partner_val_of_set (p := 11) hs i fun h0 => by
    rw [(and_two_pow_eq_zero_iff_testBit _ _).mp h0] at h; exact absurd h (by decide)).2

theorem le_of_set {s i : ℕ} (h : i.testBit s = true) : 2 ^ s ≤ i := Nat.ge_two_pow_of_testBit h

/-- `f` is a compare-exchange stage between rows `2 ^ s` apart that leaves a row the greater entry where `keep` holds and the
    lesser elsewhere. -/
def StageAt (C s : ℕ) (keep : Fin 2048 → Bool) (f : FVec Ideal (rows 2048 C) .bf16 → FVec Ideal (rows 2048 C) .bf16) : Prop :=
  ∀ (x : FVec Ideal (rows 2048 C) .bf16) (i : Fin 2048) (q : Fin C),
    (f x (ix2 i q) : EReal) = if keep i then max (x (ix2 i q) : EReal) (x (ix2 (flip s i) q)) else min (x (ix2 i q) : EReal) (x (ix2 (flip s i) q))

/-! ## The stages that shift the rows -/

theorem overRows_apply {n C : ℕ} (m : IVec (rows n 1) 1) (i : Fin n) (q : Fin C) :
    overRows C m (ix2 i q) = m (ix2 i 0) := by
  unfold overRows
  rw [broadcastTo_apply _ _ (ix2 i q) (ix2 i 0) (fun a => by
    fin_cases a
    · by_cases hn : n = 1
      · subst hn; simp
      · simp [hn]
    · simp)]
  exact shapeCast_apply m rfl _ _ rfl

theorem rollPartner_apply {C a s : ℕ} (hs : s < 11) (h : a + 2 ^ s = 2048) (m : IVec (rows 2048 1) 1)
    (hm : ∀ i : Fin 2048, m (ix2 i 0) = BitVec.ofBool (i.val.testBit s)) (x : FVec Ideal (rows 2048 C) .bf16) (i : Fin 2048)
    (q : Fin C) : rollPartner a (2 ^ s) C h m x (ix2 i q) = x (ix2 (flip s i) q) := by
  have hi := i.isLt
  unfold rollPartner
  rw [select_apply, overRows_apply, hm, select_ofBool]
  cases hb : i.val.testBit s
  · have hf := flip_clear hs i hb
    have hlt := (flip s i).isLt
    rw [if_neg (by decide), concatenate_pair_apply_left (s₁ := rows a C) (s₂ := rows (2 ^ s) C) 0 _ _ _ (ix2 i q) rfl
      (ix2 (⟨i.val, by omega⟩ : Fin a) q) (fun b => by fin_cases b <;> rfl)]
    exact extractStridedSlice_apply _ x _ _ (ix2 (flip s i) q) (fun b => by
      fin_cases b
      · show (flip s i).val = 2 ^ s + i.val
        omega
      · exact (Nat.zero_add _).symm)
  · have hf := flip_set hs i hb
    have hle := le_of_set hb
    rw [if_pos rfl, concatenate_pair_apply_right (s₁ := rows (2 ^ s) C) (s₂ := rows a C) 0 _ _ _ (ix2 i q) rfl rfl
      (ix2 (⟨i.val - 2 ^ s, by omega⟩ : Fin a) q) (fun b hb => by
        fin_cases b
        · exact absurd rfl hb
        · rfl) (by
        show i.val - 2 ^ s + 2 ^ s = i.val
        omega)]
    exact extractStridedSlice_apply _ x _ _ (ix2 (flip s i) q) (fun b => by
      fin_cases b
      · show (flip s i).val = 0 + (i.val - 2 ^ s)
        omega
      · exact (Nat.zero_add _).symm)

theorem rollStage_at {C a s : ℕ} (hs : s < 11) (h : a + 2 ^ s = 2048) (m kp : IVec (rows 2048 1) 1) (keep : Fin 2048 → Bool)
    (hm : ∀ i : Fin 2048, m (ix2 i 0) = BitVec.ofBool (i.val.testBit s))
    (hk : ∀ i : Fin 2048, kp (ix2 i 0) = BitVec.ofBool (keep i)) : StageAt C s keep (rollStage a (2 ^ s) C h m kp) := by
  intro x i q
  unfold rollStage
  rw [select_apply, overRows_apply, hk, select_ofBool]
  show (if keep i then max (x (ix2 i q) : EReal) (rollPartner a (2 ^ s) C h m x (ix2 i q))
    else min (x (ix2 i q) : EReal) (rollPartner a (2 ^ s) C h m x (ix2 i q))) = _
  rw [rollPartner_apply hs h m hm]

/-! ## The stages that split the rows into blocks -/

theorem half_apply {nb j C o : ℕ} (h : nb * (2 * j) = 2048) (ho : o + 1 ≤ 2) (x : FVec Ideal (rows 2048 C) .bf16) (q : Fin nb)
    (r : Fin j) (k : Fin C) (i : Fin 2048) (hi : i.val = q.val * (2 * j) + o * j + r.val) :
    half o nb j C h ho x (ix3 q r k) = x (ix2 i k) := by
  unfold half
  rw [shapeCast_apply _ _ (ix3 q r k) (ix4 q 0 r k) (by
    rw [rowMajor_val4 _ _ _ _ rfl rfl rfl, rowMajor_val3 _ _ _ rfl rfl]
    simp), extractStridedSlice_apply _ _ _ _ (ix4 q ⟨o, by omega⟩ r k) (fun b => by
      fin_cases b <;> simp)]
  refine shapeCast_apply x _ _ (ix2 i k) ?_
  rw [rowMajor_val4 _ _ _ _ rfl rfl rfl, rowMajor_val2 _ _ rfl]
  show i.val * C + k.val = q.val * (2 * (j * C)) + o * (j * C) + r.val * C + k.val
  rw [hi, Nat.add_mul, Nat.add_mul]
  simp only [Nat.mul_assoc]

theorem join_apply {nb j C o : ℕ} (h : nb * (2 * j) = 2048) (ho : o < 2) (f g : FVec Ideal (cube nb j C) .bf16) (q : Fin nb)
    (r : Fin j) (k : Fin C) (i : Fin 2048) (hi : i.val = q.val * (2 * j) + o * j + r.val) :
    join nb j C h f g (ix2 i k) = if o = 0 then f (ix3 q r k) else g (ix3 q r k) := by
  have hdrop : ∀ y : FVec Ideal (cube nb j C) .bf16, shapeCast (quad nb 1 j C) y cast_add (ix4 q 0 r k) = y (ix3 q r k) := fun y =>
    shapeCast_apply y _ _ _ (by
      rw [rowMajor_val4 _ _ _ _ rfl rfl rfl, rowMajor_val3 _ _ _ rfl rfl]
      simp)
  unfold join
  rw [shapeCast_apply _ _ (ix2 i k) (ix4 q ⟨o, ho⟩ r k) (by
    rw [rowMajor_val4 _ _ _ _ rfl rfl rfl, rowMajor_val2 _ _ rfl]
    show q.val * (2 * (j * C)) + o * (j * C) + r.val * C + k.val = i.val * C + k.val
    rw [hi, Nat.add_mul, Nat.add_mul]
    simp only [Nat.mul_assoc])]
  by_cases h0 : o = 0
  · subst h0
    rw [if_pos rfl, ← hdrop f]
    exact concatenate_pair_apply_left (t := quad nb 2 j C) (s₁ := quad nb 1 j C) (s₂ := quad nb 1 j C) 1 _ _ cat_quad (ix4 q (0 : Fin 2) r k) rfl
      (ix4 q (0 : Fin 1) r k) (fun b => by
      fin_cases b <;> rfl)
  · obtain rfl : o = 1 := by omega
    rw [if_neg (by decide), ← hdrop g]
    exact concatenate_pair_apply_right (t := quad nb 2 j C) (s₁ := quad nb 1 j C) (s₂ := quad nb 1 j C) 1 _ _ cat_quad (ix4 q (1 : Fin 2) r k) rfl rfl
      (ix4 q (0 : Fin 1) r k) (fun b hb => by
      fin_cases b
      · rfl
      · exact absurd rfl hb
      · rfl
      · rfl) rfl

theorem pairStage_at {C nb s : ℕ} (hs : s < 11) (h : nb * (2 * 2 ^ s) = 2048)
    (first second : FVec Ideal (cube nb (2 ^ s) C) .bf16 → FVec Ideal (cube nb (2 ^ s) C) .bf16 → FVec Ideal (cube nb (2 ^ s) C) .bf16)
    (up : ℕ → Bool)
    (hf : ∀ lo hi q r k, first lo hi (ix3 q r k) = if up q.val then hi (ix3 q r k) else lo (ix3 q r k))
    (hg : ∀ lo hi q r k, second lo hi (ix3 q r k) = if up q.val then lo (ix3 q r k) else hi (ix3 q r k)) :
    StageAt C s (fun i => up (i.val / 2 ^ (s + 1)) ^^ i.val.testBit s) (pairStage nb (2 ^ s) C h first second) := by
  intro x i k
  have hi := i.isLt
  have hp : 2 ^ (s + 1) = 2 * 2 ^ s := by rw [Nat.pow_succ, Nat.mul_comm]
  have hpos : 0 < 2 ^ s := Nat.two_pow_pos s
  have hq : i.val / 2 ^ (s + 1) < nb := by
    rw [hp, Nat.div_lt_iff_lt_mul (by omega), h]; exact hi
  have hr : i.val % 2 ^ s < 2 ^ s := Nat.mod_lt _ hpos
  have hval : i.val = i.val / 2 ^ (s + 1) * (2 * 2 ^ s) + (i.val / 2 ^ s % 2) * 2 ^ s + i.val % 2 ^ s := by
    have h1 := Nat.div_add_mod i.val (2 ^ s)
    have h2 := Nat.div_add_mod (i.val / 2 ^ s) 2
    have h3 : i.val / 2 ^ s / 2 = i.val / 2 ^ (s + 1) := by rw [Nat.div_div_eq_div_mul, hp, Nat.mul_comm]
    rw [h3] at h2
    have h4 : i.val / 2 ^ (s + 1) * (2 * 2 ^ s) + (i.val / 2 ^ s % 2) * 2 ^ s = 2 ^ s * (i.val / 2 ^ s) := by
      rw [← Nat.mul_assoc, ← Nat.add_mul, Nat.mul_comm _ 2, h2, Nat.mul_comm]
    omega
  have hbit : i.val.testBit s = decide (i.val / 2 ^ s % 2 = 1) := Nat.testBit_eq_decide_div_mod_eq
  have hread : ∀ (o : ℕ) (ho : o + 1 ≤ 2) (i' : Fin 2048), i'.val = i.val / 2 ^ (s + 1) * (2 * 2 ^ s) + o * 2 ^ s + i.val % 2 ^ s →
      half o nb (2 ^ s) C h ho x (ix3 ⟨_, hq⟩ ⟨_, hr⟩ k) = x (ix2 i' k) := fun o ho i' h' => half_apply h ho x _ _ k i' h'
  have hlo : ∀ a b : EReal, half 0 nb (2 ^ s) C h (by omega) x (ix3 ⟨_, hq⟩ ⟨_, hr⟩ k) = a →
      half 1 nb (2 ^ s) C h (by omega) x (ix3 ⟨_, hq⟩ ⟨_, hr⟩ k) = b → ∀ lo hi : FVec Ideal (cube nb (2 ^ s) C) .bf16,
      lo = minimumf (half 0 nb (2 ^ s) C h (by omega) x) (half 1 nb (2 ^ s) C h (by omega) x) →
      hi = maximumf (half 0 nb (2 ^ s) C h (by omega) x) (half 1 nb (2 ^ s) C h (by omega) x) →
      (lo (ix3 ⟨_, hq⟩ ⟨_, hr⟩ k) : EReal) = min a b ∧ (hi (ix3 ⟨_, hq⟩ ⟨_, hr⟩ k) : EReal) = max a b := by
    rintro a b rfl rfl lo hi rfl rfl
    exact ⟨rfl, rfl⟩
  unfold pairStage
  have ho : i.val / 2 ^ s % 2 < 2 := Nat.mod_lt _ (by decide)
  rw [join_apply h ho _ _ ⟨_, hq⟩ ⟨_, hr⟩ k i hval]
  by_cases h0 : i.val / 2 ^ s % 2 = 0
  · have hb : i.val.testBit s = false := by rw [hbit, h0]; decide
    have hfl := flip_clear hs i hb
    rw [h0] at hval
    obtain ⟨e1, e2⟩ := hlo _ _ (hread 0 (by omega) i hval) (hread 1 (by omega) (flip s i) (by omega)) _ _ rfl rfl
    rw [if_pos h0, hf, e1, e2]
    simp only [hb, Bool.xor_false]
  · have h1 : i.val / 2 ^ s % 2 = 1 := by omega
    have hb : i.val.testBit s = true := by rw [hbit, h1]; decide
    have hfl := flip_set hs i hb
    rw [h1] at hval
    obtain ⟨e1, e2⟩ := hlo _ _ (hread 0 (by omega) (flip s i) (by omega)) (hread 1 (by omega) i hval) _ _ rfl rfl
    rw [if_neg h0, hg, e1, e2, min_comm, max_comm]
    simp only [hb, Bool.xor_true]
    cases up (i.val / 2 ^ (s + 1)) <;> rfl

/-! ## The kernel's stages -/

/-- The kernel's stages whose direction is bit `b` of the row number, -/
theorem rollBy_at (s b : ℕ) (hs : s < 11) (hb : b < 32) (a : ℕ) (h : a + 2 ^ s = 2048) :
    StageAt 256 s (fun i => i.val.testBit b ^^ i.val.testBit s) (rollBy a (2 ^ s) h (BitVec.ofNat 32 s) (BitVec.ofNat 32 b)) := by
  have e : ∀ n < 32, (BitVec.ofNat 32 n).toNat = n := fun n hn => by rw [BitVec.toNat_ofNat, Nat.mod_eq_of_lt (by omega)]
  have hrow : ∀ n < 32, ∀ i : Fin 2048, rowBit 2048 (BitVec.ofNat 32 n) (ix2 i 0) = BitVec.ofBool (i.val.testBit n) :=
    fun n hn i => by rw [rowBit_apply 2048 _ le_rfl (by rw [e n hn]; exact hn), e n hn]; rfl
  refine rollStage_at hs h _ _ _ (hrow s (by omega)) fun i => ?_
  show IntOp.xori _ _ = _
  rw [hrow s (by omega), hrow b hb, ofBool_xor, Bool.xor_comm]

theorem pairBy_at (s K : ℕ) (hs : s < 11) (hK : K < 32) (nb : ℕ) (h : nb * (2 * 2 ^ s) = 2048) :
    StageAt 256 s (fun i => i.val.testBit (s + 1 + K) ^^ i.val.testBit s) (pairBy nb (2 ^ s) h (BitVec.ofNat 32 K)) := by
  have e : (BitVec.ofNat 32 K).toNat = K := by rw [BitVec.toNat_ofNat, Nat.mod_eq_of_lt (by omega)]
  have hnb : nb ≤ 2048 := by
    rw [← h]; exact Nat.le_mul_of_pos_right _ (Nat.mul_pos (by decide) (Nat.two_pow_pos s))
  have hm : ∀ (q : Fin nb) (r : Fin (2 ^ s)) (k : Fin 256),
      overGroups (2 ^ s) 256 (groupBit nb (BitVec.ofNat 32 K)) (ix3 q r k) = BitVec.ofBool (q.val.testBit K) := by
    intro q r k
    unfold overGroups
    rw [broadcastTo_apply _ _ (ix3 q r k) (ix3 q 0 0) (fun a => by
      fin_cases a
      · by_cases hn : nb = 1
        · subst hn; simp
        · simp [hn]
      · simp
      · simp), shapeCast_apply _ rfl (ix3 q 0 0) (ix3 q 0 0) rfl, groupBit_apply nb _ hnb (by rw [e]; exact hK), e]
    rfl
  have hst := pairStage_at (C := 256) hs h
    (fun lo hi => select (overGroups (2 ^ s) 256 (groupBit nb (BitVec.ofNat 32 K))) hi lo)
    (fun lo hi => select (overGroups (2 ^ s) 256 (groupBit nb (BitVec.ofNat 32 K))) lo hi) (fun q => q.testBit K)
    (fun lo hi q r k => by rw [select_apply, hm, select_ofBool]) (fun lo hi q r k => by rw [select_apply, hm, select_ofBool])
  intro x i k
  have := hst x i k
  simp only [Nat.testBit_div_two_pow, Nat.add_comm K (s + 1)] at this
  exact this

/-- those whose direction is the same in every row, -/
theorem rollDir_at (s : ℕ) (d : Bool) (hs : s < 11) (a : ℕ) (h : a + 2 ^ s = 2048) :
    StageAt 128 s (fun i => d ^^ i.val.testBit s) (rollDir a (2 ^ s) h (BitVec.ofNat 32 s) (BitVec.ofBool d)) := by
  have e : (BitVec.ofNat 32 s).toNat = s := by rw [BitVec.toNat_ofNat, Nat.mod_eq_of_lt (by omega)]
  have hrow : ∀ i : Fin 2048, rowBit 2048 (BitVec.ofNat 32 s) (ix2 i 0) = BitVec.ofBool (i.val.testBit s) :=
    fun i => by rw [rowBit_apply 2048 _ le_rfl (by rw [e]; omega), e]; rfl
  refine rollStage_at hs h _ _ _ hrow fun i => ?_
  show IntOp.xori _ (BitVec.ofBool d) = _
  rw [hrow, ofBool_xor, Bool.xor_comm]

theorem pairDir_at (s : ℕ) (d : Bool) (hs : s < 11) (nb : ℕ) (h : nb * (2 * 2 ^ s) = 2048) :
    StageAt 128 s (fun i => d ^^ i.val.testBit s) (pairDir nb (2 ^ s) h (BitVec.ofBool d)) :=
  pairStage_at hs h _ _ (fun _ => d)
    (fun lo hi q r k => by cases d <;> rfl) (fun lo hi q r k => by cases d <;> rfl)

/-- and the rising ones. -/
theorem rollAsc_at (s : ℕ) (hs : s < 11) (a : ℕ) (h : a + 2 ^ s = 2048) :
    StageAt 128 s (fun i => false ^^ i.val.testBit s) (rollAsc a (2 ^ s) h (BitVec.ofNat 32 s)) := by
  have e : (BitVec.ofNat 32 s).toNat = s := by rw [BitVec.toNat_ofNat, Nat.mod_eq_of_lt (by omega)]
  have hrow : ∀ i : Fin 2048, rowBit 2048 (BitVec.ofNat 32 s) (ix2 i 0) = BitVec.ofBool (i.val.testBit s) :=
    fun i => by rw [rowBit_apply 2048 _ le_rfl (by rw [e]; omega), e]; rfl
  exact rollStage_at hs h _ _ _ hrow fun i => by rw [hrow, Bool.false_xor]

theorem pairAsc_at (s : ℕ) (hs : s < 11) (nb : ℕ) (h : nb * (2 * 2 ^ s) = 2048) :
    StageAt 128 s (fun i => false ^^ i.val.testBit s) (pairAsc nb (2 ^ s) h) :=
  pairStage_at hs h _ _ (fun _ => false) (fun lo hi q r k => rfl) (fun lo hi q r k => rfl)

end Cert.Net

end
end
-- ==== Proof.Columns.lean ====
/- A column of the whole array across the four devices, and what the kernel's stages do to it: each one is a stage of the
   bitonic sort on 8192 places, so that the kernel runs the whole sort on every column. -/
module

public import proofs.«01_k».proof.Proof.Rows
public import proofs.«01_k».proof.Proof.Protocol

@[expose] public section

noncomputable section

namespace Cert.Net

open Cert.KernelIdeal Cert.KernelIdeal.Gen
open Idealize.ShloMosaic Idealize.ShloMosaic.SortNet

/-! ## Places in a column -/

/-- The place in the whole column of a device's row `i`. -/
def pos (c : Dev nD) (i : Fin 2048) : Fin (2 ^ 13) := ⟨2 ^ 11 * c.val + i.val, by have : c.val < 4 := c.isLt; have := i.isLt; omega⟩

/-- The device that holds a place, -/
def devOf (g : Fin (2 ^ 13)) : Dev nD := ⟨g.val / 2048, by have := g.isLt; show _ < 4; omega⟩
/-- and its row there. -/
def rowOf (g : Fin (2 ^ 13)) : Fin 2048 := ⟨g.val % 2048, Nat.mod_lt _ (by decide)⟩

theorem devOf_pos (c : Dev nD) (i : Fin 2048) : devOf (pos c i) = c := by
  have := i.isLt
  apply Fin.ext
  show (2048 * c.val + i.val) / 2048 = c.val
  omega

theorem rowOf_pos (c : Dev nD) (i : Fin 2048) : rowOf (pos c i) = i := by
  have := i.isLt
  apply Fin.ext
  show (2048 * c.val + i.val) % 2048 = i.val
  omega

theorem pos_of (g : Fin (2 ^ 13)) : pos (devOf g) (rowOf g) = g := by
  apply Fin.ext
  show 2048 * (g.val / 2048) + g.val % 2048 = g.val
  omega

theorem pos_bit (c : Dev nD) (i : Fin 2048) (b : ℕ) :
    (pos c i).val.testBit b = if b < 11 then i.val.testBit b else c.val.testBit (b - 11) :=
  Nat.testBit_two_pow_mul_add c.val i.isLt b

theorem pos_bit_low (c : Dev nD) (i : Fin 2048) {b : ℕ} (hb : b < 11) : (pos c i).val.testBit b = i.val.testBit b := by
  rw [pos_bit, if_pos hb]

/-- The column `q` of the four devices' blocks, one above the other. -/
def col {C : ℕ} (X : Dev nD → FVec Ideal (rows 2048 C) .bf16) (q : Fin C) : Fin (2 ^ 13) → EReal :=
  fun g => X (devOf g) (ix2 (rowOf g) q)

theorem col_pos {C : ℕ} (X : Dev nD → FVec Ideal (rows 2048 C) .bf16) (q : Fin C) (c : Dev nD) (i : Fin 2048) :
    col X q (pos c i) = X c (ix2 i q) := by
  unfold col
  rw [devOf_pos, rowOf_pos]

/-! ## One stage of the sort -/

/-- The stage at distance `2 ^ s` in which a pair rises or falls as bit `b` of its places is clear or set. -/
def stepNet (s b : ℕ) : Network (2 ^ 13) := stage 13 s fun i => decide (i.val &&& 2 ^ b = 0) == false

theorem and_bit_beq (n b : ℕ) : (decide (n &&& 2 ^ b = 0) == false) = n.testBit b := by
  by_cases h : n &&& 2 ^ b = 0
  · rw [(and_two_pow_eq_zero_iff_testBit _ _).mp h, decide_eq_true h]; rfl
  · have : n.testBit b = true := by
      cases hb : n.testBit b
      · exact absurd ((and_two_pow_eq_zero_iff_testBit _ _).mpr hb) h
      · rfl
    rw [this, decide_eq_false h]; rfl

theorem partner_bit {s b : ℕ} (hs : s < 13) (hb : b ≠ s) (g : Fin (2 ^ 13)) :
    (partner 13 s g).val.testBit b = g.val.testBit b := by
  rw [partner_val hs, Nat.testBit_xor, Nat.testBit_two_pow_of_ne (Ne.symm hb), Bool.xor_false]

/-- What a stage leaves at a place. -/
theorem stepNet_apply {s b : ℕ} (hs : s < 13) (hb : b ≠ s) (v : Fin (2 ^ 13) → EReal) (g : Fin (2 ^ 13)) :
    Network.apply (stepNet s b) v g
      = if g.val.testBit b ^^ g.val.testBit s then max (v g) (v (partner 13 s g)) else min (v g) (v (partner 13 s g)) := by
  unfold stepNet
  cases hg : g.val.testBit s
  · rw [(apply_stage hs _ v g ((and_two_pow_eq_zero_iff_testBit _ _).mpr hg)).1]
    simp only [and_bit_beq, Bool.xor_false]
  · have hset : g.val &&& 2 ^ s ≠ 0 := fun h => by
      rw [(and_two_pow_eq_zero_iff_testBit _ _).mp h] at hg; exact absurd hg (by decide)
    have h := (apply_stage hs (fun i => decide (i.val &&& 2 ^ b = 0) == false) v (partner 13 s g)
      (partner_and_of_set hs g hset)).2
    rw [partner_partner hs] at h
    rw [h]
    simp only [and_bit_beq, partner_bit hs hb, Bool.xor_true]
    cases g.val.testBit b
    · exact max_comm _ _
    · exact min_comm _ _

/-- A family of blocks whose entries are each the greater or the lesser of two entries of another, as a stage of the sort
    leaves them. -/
theorem col_step {C s b : ℕ} (hs : s < 13) (hb : b ≠ s) (X Y : Dev nD → FVec Ideal (rows 2048 C) .bf16) (q : Fin C)
    (h : ∀ c i, (Y c (ix2 i q) : EReal) = if (pos c i).val.testBit b ^^ (pos c i).val.testBit s
      then max (X c (ix2 i q) : EReal) (col X q (partner 13 s (pos c i)))
      else min (X c (ix2 i q) : EReal) (col X q (partner 13 s (pos c i)))) :
    col Y q = Network.apply (stepNet s b) (col X q) := by
  funext g
  rw [stepNet_apply hs hb, ← pos_of g, col_pos, col_pos]
  exact h _ _

/-- A row's partner in its own device, as a place. -/
theorem partner_local {s : ℕ} (hs : s < 11) (c : Dev nD) (i : Fin 2048) : partner 13 s (pos c i) = pos c (flip s i) := by
  apply Fin.ext
  have hb := pos_bit_low c i hs
  cases h : i.val.testBit s
  · rw [partner_val_of_clear (by omega) _ ((and_two_pow_eq_zero_iff_testBit _ _).mpr (hb.trans h))]
    show 2 ^ 11 * c.val + i.val + 2 ^ s = 2 ^ 11 * c.val + (flip s i).val
    rw [flip_clear hs i h, Nat.add_assoc]
  · rw [(partner_val_of_set (by omega) _ fun h0 => by
      rw [hb.symm.trans ((and_two_pow_eq_zero_iff_testBit _ _).mp h0)] at h; exact absurd h (by decide)).2]
    show 2 ^ 11 * c.val + i.val - 2 ^ s = 2 ^ 11 * c.val + (flip s i).val
    have := le_of_set h
    rw [flip_set hs i h, Nat.add_sub_assoc this]

/-! ## Runs of stages -/

/-- The stages at distances `2 ^ (n - 1)` down to 1. -/
def stages (b n : ℕ) : Network (2 ^ 13) := (List.range n).reverse.flatMap fun s => stepNet s b

theorem stages_succ (b n : ℕ) : stages b (n + 1) = stepNet n b ++ stages b n := by
  unfold stages
  rw [List.range_succ, List.reverse_append, List.reverse_singleton, List.singleton_append, List.flatMap_cons]

theorem levelNet_eq (l : ℕ) : levelNet 13 false l = stages (l + 1) (l + 1) := rfl

/-- The devices' functions `f` run the last `n` stages of a level on every column. -/
def Runs {C : ℕ} (b n : ℕ) (f : Dev nD → FVec Ideal (rows 2048 C) .bf16 → FVec Ideal (rows 2048 C) .bf16) : Prop :=
  ∀ (X : Dev nD → FVec Ideal (rows 2048 C) .bf16) (q : Fin C), col (fun c => f c (X c)) q = Network.apply (stages b n) (col X q)

theorem Runs.none {C : ℕ} (b : ℕ) : Runs (C := C) b 0 fun _ x => x := fun _ _ => rfl

/-- One stage more, before the others. -/
theorem Runs.before {C s b : ℕ} (hs : s < 11) (hb : b ≠ s)
    {f g : Dev nD → FVec Ideal (rows 2048 C) .bf16 → FVec Ideal (rows 2048 C) .bf16} {keep : Dev nD → Fin 2048 → Bool}
    (hf : ∀ c, StageAt C s (fun i => keep c i ^^ i.val.testBit s) (f c)) (hk : ∀ c i, (pos c i).val.testBit b = keep c i)
    (hg : Runs b s g) : Runs b (s + 1) fun c x => g c (f c x) := by
  intro X q
  rw [hg (fun c => f c (X c)) q, stages_succ, Network.apply_append]
  refine congrArg (Network.apply (stages b s)) (col_step (by omega) hb X _ q fun c i => ?_)
  rw [hf c (X c) i q, partner_local hs, col_pos, hk, pos_bit_low c i hs]

/-! ## The levels inside a device -/

theorem Runs.roll {s b : ℕ} {g : Dev nD → FVec Ideal (rows 2048 256) .bf16 → FVec Ideal (rows 2048 256) .bf16} (a : ℕ)
    (h : a + 2 ^ s = 2048) (hs : s < b) (hb : b < 11) (hg : Runs b s g) :
    Runs b (s + 1) fun c x => g c (rollBy a (2 ^ s) h (BitVec.ofNat 32 s) (BitVec.ofNat 32 b) x) :=
  .before (by omega) (by omega) (keep := fun _ i => i.val.testBit b) (fun _ => rollBy_at s b (by omega) (by omega) a h)
    (fun c i => pos_bit_low c i hb) hg

theorem Runs.pair {s b : ℕ} (K : ℕ) {g : Dev nD → FVec Ideal (rows 2048 256) .bf16 → FVec Ideal (rows 2048 256) .bf16} (nb : ℕ)
    (h : nb * (2 * 2 ^ s) = 2048) (hK : s + 1 + K = b) (hb : b < 11) (hg : Runs b s g) :
    Runs b (s + 1) fun c x => g c (pairBy nb (2 ^ s) h (BitVec.ofNat 32 K) x) := by
  subst hK
  exact .before (by omega) (by omega) (keep := fun _ i => i.val.testBit (s + 1 + K)) (fun _ => pairBy_at s K (by omega) (by omega) nb h)
    (fun c i => pos_bit_low c i hb) hg

/-- The stages at distances 4, 2 and 1 of a level. -/
theorem rolls {b : ℕ} (h3 : 2 < b) (hb : b < 11) : Runs b 3 fun _ x =>
    rollBy 2047 1 rfl 0#32 (BitVec.ofNat 32 b) (rollBy 2046 2 rfl 1#32 (BitVec.ofNat 32 b) (rollBy 2044 4 rfl 2#32 (BitVec.ofNat 32 b) x)) := by
  have h := Runs.roll (s := 2) 2044 rfl h3 hb <| Runs.roll (s := 1) 2046 rfl (by omega) hb <| Runs.roll (s := 0) 2047 rfl (by omega) hb <| Runs.none b
  exact h

theorem level1_runs : Runs 1 1 fun _ => level1 := by
  have h := Runs.roll (s := 0) 2047 rfl (by decide) (by decide) <| Runs.none 1
  exact h

theorem level2_runs : Runs 2 2 fun _ => level2 := by
  have h := Runs.roll (s := 1) 2046 rfl (by decide) (by decide) <| Runs.roll (s := 0) 2047 rfl (by decide) (by decide) <| Runs.none 2
  exact h

theorem level3_runs : Runs 3 3 fun _ => level3 := by
  have h := rolls (b := 3) (by decide) (by decide)
  exact h

theorem level4_runs : Runs 4 4 fun _ => level4 := by
  have h := Runs.pair (s := 3) 0 128 rfl rfl (by decide) <| rolls (b := 4) (by decide) (by decide)
  exact h

theorem level5_runs : Runs 5 5 fun _ => level5 := by
  have h := Runs.pair (s := 4) 0 64 rfl rfl (by decide) <| Runs.pair (s := 3) 1 128 rfl rfl (by decide) <| rolls (b := 5) (by decide) (by decide)
  exact h

theorem level6_runs : Runs 6 6 fun _ => level6 := by
  have h := Runs.pair (s := 5) 0 32 rfl rfl (by decide) <| Runs.pair (s := 4) 1 64 rfl rfl (by decide) <| Runs.pair (s := 3) 2 128 rfl rfl (by decide) <|
  rolls (b := 6) (by decide) (by decide)
  exact h

theorem level7_runs : Runs 7 7 fun _ => level7 := by
  have h := Runs.pair (s := 6) 0 16 rfl rfl (by decide) <| Runs.pair (s := 5) 1 32 rfl rfl (by decide) <| Runs.pair (s := 4) 2 64 rfl rfl (by decide) <|
  Runs.pair (s := 3) 3 128 rfl rfl (by decide) <| rolls (b := 7) (by decide) (by decide)
  exact h

theorem level8_runs : Runs 8 8 fun _ => level8 := by
  have h := Runs.pair (s := 7) 0 8 rfl rfl (by decide) <| Runs.pair (s := 6) 1 16 rfl rfl (by decide) <| Runs.pair (s := 5) 2 32 rfl rfl (by decide) <|
  Runs.pair (s := 4) 3 64 rfl rfl (by decide) <| Runs.pair (s := 3) 4 128 rfl rfl (by decide) <| rolls (b := 8) (by decide) (by decide)
  exact h

theorem level9_runs : Runs 9 9 fun _ => level9 := by
  have h := Runs.pair (s := 8) 0 4 rfl rfl (by decide) <| Runs.pair (s := 7) 1 8 rfl rfl (by decide) <| Runs.pair (s := 6) 2 16 rfl rfl (by decide) <|
  Runs.pair (s := 5) 3 32 rfl rfl (by decide) <| Runs.pair (s := 4) 4 64 rfl rfl (by decide) <| Runs.pair (s := 3) 5 128 rfl rfl (by decide) <|
  rolls (b := 9) (by decide) (by decide)
  exact h

theorem level10_runs : Runs 10 10 fun _ => level10 := by
  have h := Runs.pair (s := 9) 0 2 rfl rfl (by decide) <| Runs.pair (s := 8) 1 4 rfl rfl (by decide) <| Runs.pair (s := 7) 2 8 rfl rfl (by decide) <|
  Runs.pair (s := 6) 3 16 rfl rfl (by decide) <| Runs.pair (s := 5) 4 32 rfl rfl (by decide) <| Runs.pair (s := 4) 5 64 rfl rfl (by decide) <|
  Runs.pair (s := 3) 6 128 rfl rfl (by decide) <| rolls (b := 10) (by decide) (by decide)
  exact h

/-- The devices' functions `f` run the first `l` levels of the sort on every column. -/
def RunsLevels {C : ℕ} (l : ℕ) (f : Dev nD → FVec Ideal (rows 2048 C) .bf16 → FVec Ideal (rows 2048 C) .bf16) : Prop :=
  ∀ (X : Dev nD → FVec Ideal (rows 2048 C) .bf16) (q : Fin C),
    col (fun c => f c (X c)) q = Network.apply (levelsNet 13 false l) (col X q)

/-- One level more, after the others. -/
theorem Runs.after {C l : ℕ} {f g : Dev nD → FVec Ideal (rows 2048 C) .bf16 → FVec Ideal (rows 2048 C) .bf16}
    (hg : Runs (l + 1) (l + 1) g) (hf : RunsLevels l f) : RunsLevels (l + 1) fun c x => g c (f c x) := by
  intro X q
  rw [hg (fun c => f c (X c)) q, hf, levelsNet_succ, Network.apply_append, levelNet_eq]

theorem RunsLevels.none {C : ℕ} : RunsLevels (C := C) 0 fun _ x => x := fun _ _ => rfl

/-- The levels inside a device are the first ten of the sort. -/
theorem localLevels_runs : RunsLevels 10 fun _ => localLevels := by
  have h := level10_runs.after (level9_runs.after (level8_runs.after (level7_runs.after (level6_runs.after (level5_runs.after
    (level4_runs.after (level3_runs.after (level2_runs.after (level1_runs.after RunsLevels.none)))))))))
  exact h

/-! ## The merges -/

theorem Runs.rollDir {s b : ℕ} {d : Dev nD → Bool} {g : Dev nD → FVec Ideal (rows 2048 128) .bf16 → FVec Ideal (rows 2048 128) .bf16}
    (a : ℕ) (h : a + 2 ^ s = 2048) (hs : s < 11) (hb : 11 ≤ b) (hd : ∀ c i, (pos c i).val.testBit b = d c) (hg : Runs b s g) :
    Runs b (s + 1) fun c x => g c (Net.rollDir a (2 ^ s) h (BitVec.ofNat 32 s) (BitVec.ofBool (d c)) x) :=
  .before hs (by omega) (keep := fun c _ => d c) (fun c => rollDir_at s (d c) hs a h) hd hg

theorem Runs.pairDir {s b : ℕ} {d : Dev nD → Bool} {g : Dev nD → FVec Ideal (rows 2048 128) .bf16 → FVec Ideal (rows 2048 128) .bf16}
    (nb : ℕ) (h : nb * (2 * 2 ^ s) = 2048) (hs : s < 11) (hb : 11 ≤ b) (hd : ∀ c i, (pos c i).val.testBit b = d c) (hg : Runs b s g) :
    Runs b (s + 1) fun c x => g c (Net.pairDir nb (2 ^ s) h (BitVec.ofBool (d c)) x) :=
  .before hs (by omega) (keep := fun c _ => d c) (fun c => pairDir_at s (d c) hs nb h) hd hg

theorem Runs.rollAsc {s b : ℕ} {g : Dev nD → FVec Ideal (rows 2048 128) .bf16 → FVec Ideal (rows 2048 128) .bf16}
    (a : ℕ) (h : a + 2 ^ s = 2048) (hs : s < 11) (hb : 11 ≤ b) (hd : ∀ c i, (pos c i).val.testBit b = false) (hg : Runs b s g) :
    Runs b (s + 1) fun c x => g c (Net.rollAsc a (2 ^ s) h (BitVec.ofNat 32 s) x) :=
  .before hs (by omega) (keep := fun _ _ => false) (fun _ => rollAsc_at s hs a h) hd hg

theorem Runs.pairAsc {s b : ℕ} {g : Dev nD → FVec Ideal (rows 2048 128) .bf16 → FVec Ideal (rows 2048 128) .bf16}
    (nb : ℕ) (h : nb * (2 * 2 ^ s) = 2048) (hs : s < 11) (hb : 11 ≤ b) (hd : ∀ c i, (pos c i).val.testBit b = false) (hg : Runs b s g) :
    Runs b (s + 1) fun c x => g c (Net.pairAsc nb (2 ^ s) h x) :=
  .before hs (by omega) (keep := fun _ _ => false) (fun _ => pairAsc_at s hs nb h) hd hg

theorem mergeDir_runs {b : ℕ} {d : Dev nD → Bool} (hb : 11 ≤ b) (hd : ∀ c i, (pos c i).val.testBit b = d c) :
    Runs b 11 fun c => mergeDir (BitVec.ofBool (d c)) := by
  have h := Runs.pairDir (s := 10) 1 rfl (by decide) hb hd <| Runs.pairDir (s := 9) 2 rfl (by decide) hb hd <|
  Runs.pairDir (s := 8) 4 rfl (by decide) hb hd <| Runs.pairDir (s := 7) 8 rfl (by decide) hb hd <|
  Runs.pairDir (s := 6) 16 rfl (by decide) hb hd <| Runs.pairDir (s := 5) 32 rfl (by decide) hb hd <|
  Runs.pairDir (s := 4) 64 rfl (by decide) hb hd <| Runs.pairDir (s := 3) 128 rfl (by decide) hb hd <|
  Runs.rollDir (s := 2) 2044 rfl (by decide) hb hd <| Runs.rollDir (s := 1) 2046 rfl (by decide) hb hd <|
  Runs.rollDir (s := 0) 2047 rfl (by decide) hb hd <| Runs.none b
  exact h

theorem mergeAsc_runs {b : ℕ} (hb : 11 ≤ b) (hd : ∀ c i, (pos c i).val.testBit b = false) : Runs b 11 fun _ => mergeAsc := by
  have h := Runs.pairAsc (s := 10) 1 rfl (by decide) hb hd <| Runs.pairAsc (s := 9) 2 rfl (by decide) hb hd <|
  Runs.pairAsc (s := 8) 4 rfl (by decide) hb hd <| Runs.pairAsc (s := 7) 8 rfl (by decide) hb hd <|
  Runs.pairAsc (s := 6) 16 rfl (by decide) hb hd <| Runs.pairAsc (s := 5) 32 rfl (by decide) hb hd <|
  Runs.pairAsc (s := 4) 64 rfl (by decide) hb hd <| Runs.pairAsc (s := 3) 128 rfl (by decide) hb hd <|
  Runs.rollAsc (s := 2) 2044 rfl (by decide) hb hd <| Runs.rollAsc (s := 1) 2046 rfl (by decide) hb hd <|
  Runs.rollAsc (s := 0) 2047 rfl (by decide) hb hd <| Runs.none b
  exact h

/-! ## The exchanges between devices -/

theorem isOdd_eq (c : Dev nD) : isOdd c = BitVec.ofBool (c.val.testBit 0) := by
  revert c; decide

theorem isUpper_eq (c : Dev nD) : isUpper c = BitVec.ofBool (c.val.testBit 1) := by
  revert c; decide

theorem isMiddle_eq (c : Dev nD) : isMiddle c = BitVec.ofBool (c.val.testBit 1 ^^ c.val.testBit 0) := by
  revert c; decide

theorem near_val (c : Dev nD) : (near c).val = c.val ^^^ 1 := by
  revert c; decide

theorem far_val (c : Dev nD) : (far c).val = c.val ^^^ 2 := by
  revert c; decide

theorem pos_xor (c c' : Dev nD) (i : Fin 2048) (t : ℕ) (h : c'.val = c.val ^^^ 2 ^ t) (ht : t < 2) :
    partner 13 (11 + t) (pos c i) = pos c' i := by
  apply Fin.ext
  rw [partner_val (by omega)]
  apply Nat.eq_of_testBit_eq
  intro b
  rw [Nat.testBit_xor, pos_bit, pos_bit, h]
  by_cases hb : b < 11
  · rw [if_pos hb, if_pos hb, Nat.testBit_two_pow_of_ne (by omega), Bool.xor_false]
  · rw [if_neg hb, if_neg hb, Nat.testBit_xor, Nat.testBit_two_pow, Nat.testBit_two_pow]
    congr 1
    exact decide_eq_decide.mpr (by omega)

theorem exchange_col {b t : ℕ} (ht : t < 2) (hb : b ≠ 11 + t) (d : Dev nD → BitVec 1) (other : Dev nD → Dev nD)
    (ho : ∀ c, (other c).val = c.val ^^^ 2 ^ t)
    (hd : ∀ c i, d c = BitVec.ofBool ((pos c i).val.testBit b ^^ (pos c i).val.testBit (11 + t)))
    (X : Dev nD → FVec Ideal (rows 2048 128) .bf16) (q : Fin 128) :
    col (fun c => exchange (d c) (X c) (X (other c))) q = Network.apply (stepNet (11 + t) b) (col X q) := by
  refine col_step (by omega) hb X _ q fun c i => ?_
  rw [pos_xor c (other c) i t (ho c) ht, col_pos]
  unfold exchange
  rw [hd c i, select_ofBool]
  cases (pos c i).val.testBit b ^^ (pos c i).val.testBit (11 + t) <;> rfl

/-! ## The whole sort -/

variable (m : (ℓ : Loc nD τ sig) → Buf (Elt Ideal) ℓ) (ρ : Dev nD → PrngReg)

/-- The column of a half of the block that column `q` of chunk `k` comes from. -/
def srcCol (k : Fin 4) (q : Fin 128) : Fin 256 := ⟨(sideNo k).val * 128 + q.val, by have := (sideNo k).isLt; have := q.isLt; omega⟩

theorem chunkOf_col (Y : Dev nD → FVec Ideal (rows 2048 256) .bf16) (k : Fin 4) (q : Fin 128) :
    col (fun c => chunkOf (sideNo k) (Y c)) q = col Y (srcCol k q) := by
  funext g
  unfold col chunkOf
  exact extractStridedSlice_apply _ _ _ _ (ix2 (rowOf g) (srcCol k q)) (fun b => by
    fin_cases b
    · exact (Nat.zero_add _).symm
    · rfl)

theorem lvl0_col (k : Fin 4) (q : Fin 128) : col (fun c => lvl0 m ρ c k) q
    = Network.apply (levelsNet 13 false 11) (col (fun c => halfIn m ρ c (halfNo k)) (srcCol k q)) := by
  have h := mergeDir_runs (b := 11) (d := fun c => c.val.testBit 0) le_rfl (fun c i => by rw [pos_bit, if_neg (by decide)])
    (fun c => chunkOf (sideNo k) (localLevels (halfIn m ρ c (halfNo k)))) q
  rw [chunkOf_col (fun c => localLevels (halfIn m ρ c (halfNo k))), localLevels_runs (fun c => halfIn m ρ c (halfNo k))] at h
  rw [levelsNet_succ, Network.apply_append, levelNet_eq, ← h]
  unfold lvl0
  simp only [isOdd_eq]

theorem lvl1_col (k : Fin 4) (q : Fin 128) : col (fun c => lvl1 m ρ c k) q
    = Network.apply (levelsNet 13 false 12) (col (fun c => halfIn m ρ c (halfNo k)) (srcCol k q)) := by
  have h := mergeDir_runs (b := 12) (d := fun c => c.val.testBit 1) (by decide) (fun c i => by rw [pos_bit, if_neg (by decide)])
    (fun c => exchange (isMiddle c) (lvl0 m ρ c k) (lvl0 m ρ (near c) k)) q
  rw [exchange_col (b := 12) (t := 0) (by decide) (by decide) isMiddle near near_val (fun c i => by
    rw [isMiddle_eq, pos_bit, if_neg (by decide), pos_bit, if_neg (by decide)]) (fun c => lvl0 m ρ c k), lvl0_col] at h
  rw [levelsNet_succ, Network.apply_append, levelNet_eq, stages_succ, Network.apply_append, ← h]
  unfold lvl1
  simp only [isUpper_eq]

/-- Every column leaves the kernel sorted by the whole network. -/
theorem lvl3_col (k : Fin 4) (q : Fin 128) : col (fun c => lvl3 m ρ c k) q
    = Network.apply (sortNet 13 false) (col (fun c => halfIn m ρ c (halfNo k)) (srcCol k q)) := by
  have top : ∀ (c : Dev nD) (i : Fin 2048), (pos c i).val.testBit 13 = false := fun c i =>
    Nat.testBit_lt_two_pow (pos c i).isLt
  have h := mergeAsc_runs (b := 13) (by decide) top (fun c => exchange (isOdd c) (lvl2 m ρ c k) (lvl2 m ρ (near c) k)) q
  rw [exchange_col (b := 13) (t := 0) (by decide) (by decide) isOdd near near_val (fun c i => by
    rw [isOdd_eq, top, pos_bit, if_neg (by decide), Bool.false_xor]) (fun c => lvl2 m ρ c k)] at h
  have h2 := exchange_col (b := 13) (t := 1) (by decide) (by decide) isUpper far far_val (fun c i => by
    rw [isUpper_eq, top, pos_bit, if_neg (by decide), Bool.false_xor]) (fun c => lvl1 m ρ c k) q
  rw [show (fun c => lvl2 m ρ c k) = fun c => exchange (isUpper c) (lvl1 m ρ c k) (lvl1 m ρ (far c) k) from rfl, h2, lvl1_col] at h
  rw [sortNet_eq_levelsNet, levelsNet_succ, Network.apply_append, levelNet_eq, stages_succ, Network.apply_append, stages_succ,
    Network.apply_append, ← h]
  rfl

end Cert.Net

end
end
-- ==== Proof.Sorted.lean ====
/- The reference's sort, over the extended reals, as the bitonic sort of each column. -/
module

public import proofs.«01_k».proof.Proof.Gen.ReferenceIdeal
public import Idealize.ShloMosaic.Lib.SortNet.Sorts
public import Idealize.ShloMosaic.Lib.SortFacts
public import Idealize.ShloMosaic.Lib.Pointwise.Tactic
public import Mathlib.Data.List.FinRange
public import Mathlib.Data.List.Sort

@[expose] public section

noncomputable section

namespace Cert.Sorted

open Cert.ReferenceIdeal
open Idealize.ShloMosaic Idealize.ShloMosaic.SortNet

/-- The reference's comparator is the order of the extended reals. -/
theorem comparator_eq (a b : EReal) : comparator_f32_d0 (F := Ideal) a b = BitVec.ofBool (decide (a < b)) := by
  have key : ∀ a : EReal, Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0x00000000#32))
        (FloatOps.ofBits (F := Ideal) .f32 0x00000000#32) a) = a := by
    intro a
    have h1 : FloatOps.cmpf (F := Ideal) (φ := .f32) .une a a = 0#1 := by
      show BitVec.ofBool (decide (a ≠ a)) = 0#1
      simp
    rw [h1]
    show Scalar.select (BitVec.ofBool (decide (a = FloatOps.ofBits (F := Ideal) .f32 0x00000000#32))) _ a = a
    by_cases h : a = FloatOps.ofBits (F := Ideal) .f32 0x00000000#32
    · rw [decide_eq_true h]; exact h.symm
    · rw [decide_eq_false h]; rfl
  unfold comparator_f32_d0
  dsimp only
  rw [key a, key b]
  rfl

/-- A column sorted by the order is the bitonic sort of it: both put its entries in order, and there is one such order. -/
theorem sortedFrom_eq_network {p : Nat} (v : Fin (2 ^ p) → EReal) (before : Fin (2 ^ p) → Fin (2 ^ p) → Bool)
    (hbefore : ∀ k k', before k k' = decide (v k < v k')) (g : Fin (2 ^ p)) :
    v (sortedFrom before g) = Network.apply (sortNet p false) v g := by
  obtain ⟨σ, hσ⟩ := Network.exists_perm (sortNet p false) v
  have hmono := sortNet_apply_monotone p v
  let τ : Equiv.Perm (Fin (2 ^ p)) := Equiv.ofBijective (sortedFrom before) ⟨sortedFrom_injective before, sortedFrom_surjective before⟩
  have hτ : Monotone (v ∘ τ) := by
    intro i j hij
    rcases eq_or_lt_of_le hij with rfl | hlt
    · exact le_refl _
    · have h := sortedFrom_noInversion before before
        (fun a b h => by rw [hbefore, decide_eq_true_eq] at h; rw [hbefore, decide_eq_false_iff_not]; exact not_lt.mpr h.le)
        (fun _ _ h => h)
        (fun a b c h h' => by
          rw [hbefore, decide_eq_false_iff_not] at h h' ⊢
          exact not_lt.mpr ((not_lt.mp h').trans (not_lt.mp h))) i j hlt
      rw [hbefore, decide_eq_false_iff_not] at h
      exact not_lt.mp h
  rw [hσ] at hmono ⊢
  have hperm : (List.ofFn (v ∘ τ)).Perm (List.ofFn (v ∘ σ)) := (τ.ofFn_comp_perm v).trans (σ.ofFn_comp_perm v).symm
  have hone : v ∘ τ = v ∘ σ := List.ofFn_injective (hperm.eq_of_sortedLE hτ.sortedLE_ofFn hmono.sortedLE_ofFn)
  exact congrFun hone g

/-- A sort along the rows of a matrix, at a place, reads its column alone. -/
theorem sort_rows {n0 n1 : Nat} {α : Type} (cmp : α → α → BitVec 1) (X : (⟨2, ![n0, n1]⟩ : Shape).Idx → α) (g : Fin n0) (q : Fin n1) :
    Host.sort ⟨2, ![n0, n1]⟩ 0 cmp X (ix2 g q)
      = X (ix2 (sortedFrom (fun k k' : Fin n0 => cmp (X (ix2 k q)) (X (ix2 k' q)) == 1#1) g) q) := by
  have halong : ∀ k : Fin n0, (ix2 g q).along 0 k = ix2 k q := fun k => funext fun a => by fin_cases a <;> rfl
  unfold Host.sort
  rw [dif_pos (by decide : 0 < 2)]
  show X ((ix2 g q).along 0 (sortedFrom (fun k k' : Fin n0 =>
    cmp (X ((ix2 g q).along 0 k)) (X ((ix2 g q).along 0 k')) == 1#1) g)) = _
  simp only [halong]
  exact congrArg X (halong _)

/-- The reference's sort along the rows, a column at a time, is the bitonic sort. -/
theorem sort_rows_eq_network {p n1 : Nat} (X : (⟨2, ![2 ^ p, n1]⟩ : Shape).Idx → EReal) (g : Fin (2 ^ p)) (q : Fin n1) :
    Host.sort ⟨2, ![2 ^ p, n1]⟩ 0 (comparator_f32_d0 (F := Ideal)) X (ix2 g q)
      = Network.apply (sortNet p false) (fun g' => X (ix2 g' q)) g := by
  rw [sort_rows]
  refine sortedFrom_eq_network (fun g' => X (ix2 g' q)) _ (fun k k' => ?_) g
  rw [comparator_eq]
  cases decide (X (ix2 k q) < X (ix2 k' q)) <;> rfl

end Cert.Sorted

end
end
-- ==== Proof.Value.lean ====
/- What the kernel leaves in each device's block of the result, over the extended reals: the device's rows of the sorted
   columns. -/
module

public import proofs.«01_k».proof.Proof.Launch
public import proofs.«01_k».proof.Proof.Columns
public import proofs.«01_k».proof.Proof.Sorted

@[expose] public section

noncomputable section

namespace Cert.Net

open Cert.KernelIdeal Cert.KernelIdeal.Gen
open Idealize.ShloMosaic Idealize.ShloMosaic.SortNet
open Idealize.ShloMosaic.TcCoe

/-- The result's window is the whole block, written back once: the block ends as the body left it. -/
theorem final_out {F : FTy → Type} [FloatOps F] (m : (ℓ : Loc nD τ sig) → Buf (Elt F) ℓ) (ρ : Dev nD → PrngReg) (c : Dev nD) :
    finalA m ρ c (1 : Fin 2) = outAt m ρ c := by
  have h : (win0_1.blk (0 : Fin 1)).view.read (Elt F) (finalA m ρ c (1 : Fin 2)) = outAt m ρ c := by
    unfold finalA
    rw [show cfg0.N = (t₀ : Fin cfg0.N).val + 1 from rfl, (dats m ρ 0 c).arrAt_succ (1 : Fin 2) t₀,
      show (cfg0.win (1 : Fin 2)).flush t₀ = true from by decide, if_pos rfl]
    exact View.read_write_univ _ _
  have hz : (fun a => (win0_1.index (0 : Fin 1)) a * main_v1.ty.shape.size a) = fun _ => 0 :=
    funext fun a => by fin_cases a <;> decide
  rw [← h]
  exact (Memref.read_access_unit_zero (Elt F) main_v1 hz (fun a => by fin_cases a <;> decide) _).symm

variable (m : (ℓ : Loc nD τ sig) → Buf (Elt Ideal) ℓ) (ρ : Dev nD → PrngReg)

/-- The block the body reads is the whole argument block. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- A half of it at a row and a column. -/
theorem halfIn_apply (c : Dev nD) (h : Fin 2) (i : Fin 2048) (p : Fin 256) (Q : Fin 512) (hQ : Q.val = h.val * 256 + p.val) :
    halfIn m ρ c h (ix2 i p) = m ((c : Thread nD τ).loc main_arg0) (ix2 (n0 := 2048) (n1 := 512) i Q) := by
  unfold halfIn
  rw [shapeCast_apply _ _ (ix2 i p) (ix2 i p) rfl, xstg_eq]
  show m ((c : Thread nD τ).loc main_arg0) _ = _
  congr 1
  funext a
  apply Fin.ext
  fin_cases a
  · show 0 + 1 * i.val = i.val
    omega
  · show h.val * 256 + 1 * p.val = Q.val
    omega

/-- A device's block of a matrix of 8192 rows, at a row and a column. -/
theorem block_at (X : (⟨2, ![8192, 512]⟩ : Shape).Idx → EReal) (c : Dev nD) (i : Fin 2048) (Q : Fin 512) :
    Layout.block ⟨2, ![2048, 512]⟩ ⟨2, ![8192, 512]⟩ 0 4 c X (by decide) (ix2 i Q) = X (ix2 (n0 := 8192) (pos c i) Q) := by
  show X _ = _
  congr 1
  funext a
  apply Fin.ext
  fin_cases a
  · show c.val * 2048 + i.val = 2 ^ 11 * c.val + i.val
    omega
  · rfl

/-- When the argument blocks are those of one matrix, the result blocks end as those of the matrix the reference's sort makes. -/
theorem final_block (X : (⟨2, ![8192, 512]⟩ : Shape).Idx → EReal)
    (hX : ∀ c : Dev nD, m ((c : Thread nD τ).loc main_arg0) = Layout.block ⟨2, ![2048, 512]⟩ ⟨2, ![8192, 512]⟩ 0 4 c X) (c : Dev nD) :
    finalA m ρ c (1 : Fin 2) = Layout.block ⟨2, ![2048, 512]⟩ ⟨2, ![8192, 512]⟩ 0 4 c
      (Host.sort ⟨2, ![8192, 512]⟩ 0 (Cert.ReferenceIdeal.comparator_f32_d0 (F := Ideal)) X) := by
  rw [final_out]
  funext i
  obtain ⟨r, Q, rfl⟩ : ∃ (r : Fin 2048) (Q : Fin 512), i = ix2 r Q := ⟨i 0, i 1, funext fun a => by fin_cases a <;> rfl⟩
  have hQ : Q.val < 512 := Q.isLt
  let k : Fin 4 := ⟨Q.val / 128, by omega⟩
  let q : Fin 128 := ⟨Q.val % 128, Nat.mod_lt _ (by decide)⟩
  have hcol : col (fun c => halfIn m ρ c (halfNo k)) (srcCol k q) = fun g => X (ix2 (n0 := 8192) g Q) := by
    funext g
    have hk : (halfNo k).val * 256 + ((sideNo k).val * 128 + q.val) = Q.val := by
      have hs : ∀ k : Fin 4, (halfNo k).val * 256 + (sideNo k).val * 128 = k.val * 128 := by decide
      have := hs k
      have hk : k.val = Q.val / 128 := rfl
      have hq : q.val = Q.val % 128 := rfl
      omega
    show halfIn m ρ (devOf g) (halfNo k) (ix2 (rowOf g) (srcCol k q)) = _
    rw [halfIn_apply m ρ (devOf g) (halfNo k) (rowOf g) (srcCol k q) Q hk.symm, hX, block_at, pos_of]
  rw [block_at]
  show lvl3 m ρ c k (ix2 r q) = _
  rw [← col_pos (fun c => lvl3 m ρ c k) q c r, lvl3_col, hcol]
  exact (Cert.Sorted.sort_rows_eq_network (p := 13) (n1 := 512) X (pos c r) Q).symm

end Cert.Net

end
end
-- ==== Proof.lean ====
/- The claims about the distributed sort, from the run of its program on the four devices and the run of the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.SameText
public import proofs.«01_k».proof.Proof.Value
public import Idealize.ShloMosaic.Lib.Quiescent

@[expose] public section

noncomputable section

namespace Cert.Proof

open Idealize.ShloMosaic Idealize.SL.Sem

/-- The program at the floats' bits: every run ends with the argument as it was and every counter at zero. -/
theorem frame_kernel : Cert.quiescent_Kernel := fun m ρ _ => by
  rw [Cert.SameText.defs_same]
  exact (θ_run Cert.KernelIdeal.defs _ _).mono (fun _ h => ⟨fun c => (h.1 c (0 : Fin 2)).trans (Cert.Net.final_arg m ρ c), h.2⟩) (Cert.Net.run_main (F := Bits) m ρ)

/-- The program over the extended reals: the same. -/
theorem frame_kernelIdeal : Cert.quiescent_KernelIdeal := fun m ρ _ =>
  (θ_run Cert.KernelIdeal.defs _ _).mono (fun _ h => ⟨fun c => (h.1 c (0 : Fin 2)).trans (Cert.Net.final_arg m ρ c), h.2⟩) (Cert.Net.run_main (F := Ideal) m ρ)

/-- The reference: its argument as it was; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the devices' blocks of the result are those of the sorted matrix the reference returns. -/
theorem algebraic : Cert.algebraic_KernelIdeal_ReferenceIdeal := fun m g m' g' _ hX => by
  refine ⟨_, (θ_run Cert.KernelIdeal.defs _ _).mono (fun _ h c => ⟨?_, (h.1 c (0 : Fin 2)).trans (Cert.Net.final_arg m g c)⟩)
      (Cert.Net.run_main (F := Ideal) m g),
    (θ_run Cert.ReferenceIdeal.defs _ _).mono (fun _ h => h 0) (Cert.ReferenceIdeal.Value.run (F := Ideal) m' g')⟩
  exact (h.1 c (1 : Fin 2)).trans (Cert.Net.final_block m g _ hX c)

theorem claim : Cert.Claim := ⟨Cert.Kernel.Gen.facts, Cert.KernelIdeal.Gen.facts, Cert.ReferenceIdeal.Gen.facts,
  frame_kernel, frame_kernelIdeal, frame_reference, trivial, algebraic⟩

end Cert.Proof

end
